-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_and_masks [hPre_labels_and_masks : Cert.Pre_labels_and_masks.Facts] (m : (ℓ : Loc Cert.KernelIdeal.nD Cert.KernelIdeal.τ Cert.KernelIdeal.sig) → Buf (Elt Ideal) ℓ) : Prop :=
  ∀ c : Dev Cert.KernelIdeal.nD,
    (Cert.Pre_labels_and_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_and_masks [hPre_labels_and_masks : Cert.Pre_labels_and_masks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_and_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_and_masks [hKernelIdeal : Cert.KernelIdeal.Facts] [hPre_labels_and_masks : Cert.Pre_labels_and_masks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_and_masks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_and_masks [hReferenceIdeal : Cert.ReferenceIdeal.Facts] [hPre_labels_and_masks : Cert.Pre_labels_and_masks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_and_masks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_labels_and_masks [hKernelIdeal : Cert.KernelIdeal.Facts] [hReferenceIdeal : Cert.ReferenceIdeal.Facts] [hPre_labels_and_masks : Cert.Pre_labels_and_masks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_and_masks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_and_masks : Cert.Pre_labels_and_masks.Facts),
    quiescent_Kernel (hKernel := hKernel)
    ∧ quiescent_KernelIdeal (hKernelIdeal := hKernelIdeal)
    ∧ quiescent_KernelIdeal_pre_labels_and_masks (hKernelIdeal := hKernelIdeal) (hPre_labels_and_masks := hPre_labels_and_masks)
    ∧ quiescent_ReferenceIdeal (hReferenceIdeal := hReferenceIdeal)
    ∧ quiescent_ReferenceIdeal_pre_labels_and_masks (hReferenceIdeal := hReferenceIdeal) (hPre_labels_and_masks := hPre_labels_and_masks)
    ∧ preserves_Kernel_KernelIdeal
    ∧ algebraic_KernelIdeal_ReferenceIdeal_pre_labels_and_masks (hKernelIdeal := hKernelIdeal) (hReferenceIdeal := hReferenceIdeal) (hPre_labels_and_masks := hPre_labels_and_masks)
-- ==== Pre_labels_and_masks.lean ====
abbrev S16x512x512 : Shape := ⟨3, ![16, 512, 512]⟩
abbrev S16x1x512x512 : Shape := ⟨4, ![16, 1, 512, 512]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x512x512 .f32) (main_arg1 : FVec F S16x1x512x512 .f32) (main_arg2 : IVec S16x512x512 32) (main_arg3 : IVec S16x512x512 32) : IVec S_ 1 :=
  let main_cst : FVec F S_ .f32 := constant S_ .f32 0x00000000#32
  let main_v0 : FVec F S16x1x512x512 .f32 := broadcastInDim S16x1x512x512 ![] bcast_S_S16x1x512x512 main_cst
  let main_v1 : IVec S16x1x512x512 1 := cmpf .oge main_arg1 main_v0
  let main_cst_0 : FVec F S_ .f32 := constant S_ .f32 0x41D00000#32
  let main_v2 : FVec F S16x1x512x512 .f32 := broadcastInDim S16x1x512x512 ![] bcast_S_S16x1x512x512 main_cst_0
  let main_v3 : IVec S16x1x512x512 1 := cmpf .ole main_arg1 main_v2
  let main_v4 : IVec S16x1x512x512 1 := andi main_v1 main_v3
  let main_c : IVec S_ 1 := constantI S_ 1 1#1
  let main_v5 : IVec S_ 1 := (fun x v => Host.reduce IntOp.andi x v reducesTo_S16x1x512x512_S_d0_1_2_3 h_S_) main_v4 main_c
  let main_c_1 : IVec S_ 32 := constantI S_ 32 0#32
  let main_v6 : IVec S16x512x512 32 := broadcastInDim S16x512x512 ![] bcast_S_S16x512x512 main_c_1
  let main_v7 : IVec S16x512x512 1 := cmpi .eq main_arg2 main_v6
  let main_c_2 : IVec S_ 32 := constantI S_ 32 1#32
  let main_v8 : IVec S16x512x512 32 := broadcastInDim S16x512x512 ![] bcast_S_S16x512x512 main_c_2
  let main_v9 : IVec S16x512x512 1 := cmpi .eq main_arg2 main_v8
  let main_v10 : IVec S16x512x512 1 := ori main_v7 main_v9
  let main_c_3 : IVec S_ 1 := constantI S_ 1 1#1
  let main_v11 : IVec S_ 1 := (fun x v => Host.reduce IntOp.andi x v reducesTo_S16x512x512_S_d0_1_2 h_S_) main_v10 main_c_3
  let main_v12 : IVec S_ 1 := andi main_v5 main_v11
  main_v12
-- ==== Kernel.lean ====
abbrev S16x512x512 : Shape := ⟨3, ![16, 512, 512]⟩
abbrev S16x1x512x512 : Shape := ⟨4, ![16, 1, 512, 512]⟩
abbrev S1x1 : Shape := ⟨2, ![1, 1]⟩
abbrev S1x512x512 : Shape := ⟨3, ![1, 512, 512]⟩
abbrev S2 : Shape := ⟨1, ![2]⟩
abbrev S1x512x29 : Shape := ⟨3, ![1, 512, 29]⟩
abbrev S1x512x511 : Shape := ⟨3, ![1, 512, 511]⟩
abbrev S1x512x1 : Shape := ⟨3, ![1, 512, 1]⟩
abbrev S1x512x510 : Shape := ⟨3, ![1, 512, 510]⟩
abbrev S1x512x2 : Shape := ⟨3, ![1, 512, 2]⟩
abbrev S1x512x509 : Shape := ⟨3, ![1, 512, 509]⟩
abbrev S1x512x3 : Shape := ⟨3, ![1, 512, 3]⟩
abbrev S1x512x508 : Shape := ⟨3, ![1, 512, 508]⟩
abbrev S1x512x4 : Shape := ⟨3, ![1, 512, 4]⟩
abbrev S1x512x507 : Shape := ⟨3, ![1, 512, 507]⟩
abbrev S1x512x5 : Shape := ⟨3, ![1, 512, 5]⟩
abbrev S1x512x506 : Shape := ⟨3, ![1, 512, 506]⟩
abbrev S1x512x6 : Shape := ⟨3, ![1, 512, 6]⟩
abbrev S1x512x505 : Shape := ⟨3, ![1, 512, 505]⟩
abbrev S1x512x7 : Shape := ⟨3, ![1, 512, 7]⟩
abbrev S1x512x504 : Shape := ⟨3, ![1, 512, 504]⟩
abbrev S1x512x8 : Shape := ⟨3, ![1, 512, 8]⟩
abbrev S1x512x503 : Shape := ⟨3, ![1, 512, 503]⟩
abbrev S1x512x9 : Shape := ⟨3, ![1, 512, 9]⟩
abbrev S1x512x502 : Shape := ⟨3, ![1, 512, 502]⟩
abbrev S1x512x10 : Shape := ⟨3, ![1, 512, 10]⟩
abbrev S1x512x501 : Shape := ⟨3, ![1, 512, 501]⟩
abbrev S1x512x11 : Shape := ⟨3, ![1, 512, 11]⟩
abbrev S1x512x500 : Shape := ⟨3, ![1, 512, 500]⟩
abbrev S1x512x12 : Shape := ⟨3, ![1, 512, 12]⟩
abbrev S1x512x499 : Shape := ⟨3, ![1, 512, 499]⟩
abbrev S1x512x13 : Shape := ⟨3, ![1, 512, 13]⟩
abbrev S1x512x498 : Shape := ⟨3, ![1, 512, 498]⟩
abbrev S1x512x14 : Shape := ⟨3, ![1, 512, 14]⟩
abbrev S1x512x497 : Shape := ⟨3, ![1, 512, 497]⟩
abbrev S1x512x15 : Shape := ⟨3, ![1, 512, 15]⟩
abbrev S1x512x496 : Shape := ⟨3, ![1, 512, 496]⟩
abbrev S1x512x16 : Shape := ⟨3, ![1, 512, 16]⟩
abbrev S1x512x495 : Shape := ⟨3, ![1, 512, 495]⟩
abbrev S1x512x17 : Shape := ⟨3, ![1, 512, 17]⟩
abbrev S1x512x494 : Shape := ⟨3, ![1, 512, 494]⟩
abbrev S1x512x18 : Shape := ⟨3, ![1, 512, 18]⟩
abbrev S1x512x493 : Shape := ⟨3, ![1, 512, 493]⟩
abbrev S1x512x19 : Shape := ⟨3, ![1, 512, 19]⟩
abbrev S1x512x492 : Shape := ⟨3, ![1, 512, 492]⟩
abbrev S1x512x20 : Shape := ⟨3, ![1, 512, 20]⟩
abbrev S1x512x491 : Shape := ⟨3, ![1, 512, 491]⟩
abbrev S1x512x21 : Shape := ⟨3, ![1, 512, 21]⟩
abbrev S1x512x490 : Shape := ⟨3, ![1, 512, 490]⟩
abbrev S1x512x22 : Shape := ⟨3, ![1, 512, 22]⟩
abbrev S1x512x489 : Shape := ⟨3, ![1, 512, 489]⟩
abbrev S1x512x23 : Shape := ⟨3, ![1, 512, 23]⟩
abbrev S1x512x488 : Shape := ⟨3, ![1, 512, 488]⟩
abbrev S1x512x24 : Shape := ⟨3, ![1, 512, 24]⟩
abbrev S1x512x487 : Shape := ⟨3, ![1, 512, 487]⟩
abbrev S1x512x25 : Shape := ⟨3, ![1, 512, 25]⟩
abbrev S1x512x486 : Shape := ⟨3, ![1, 512, 486]⟩
abbrev S1x512x26 : Shape := ⟨3, ![1, 512, 26]⟩
abbrev S1x512x485 : Shape := ⟨3, ![1, 512, 485]⟩
abbrev S1x512x27 : Shape := ⟨3, ![1, 512, 27]⟩
abbrev S1x512x484 : Shape := ⟨3, ![1, 512, 484]⟩
abbrev S1x512x28 : Shape := ⟨3, ![1, 512, 28]⟩
abbrev S1x512x483 : Shape := ⟨3, ![1, 512, 483]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S512 : Shape := ⟨1, ![512]⟩
abbrev S1x512 : Shape := ⟨2, ![1, 512]⟩
abbrev S1x1x512 : Shape := ⟨3, ![1, 1, 512]⟩
abbrev S1 : Shape := ⟨1, ![1]⟩
abbrev S1x1x1 : Shape := ⟨3, ![1, 1, 1]⟩
abbrev S1x256x512 : Shape := ⟨3, ![1, 256, 512]⟩
abbrev S1x128x512 : Shape := ⟨3, ![1, 128, 512]⟩
abbrev S1x64x512 : Shape := ⟨3, ![1, 64, 512]⟩
abbrev S1x32x512 : Shape := ⟨3, ![1, 32, 512]⟩
abbrev S1x16x512 : Shape := ⟨3, ![1, 16, 512]⟩
abbrev S1x8x512 : Shape := ⟨3, ![1, 8, 512]⟩
abbrev S1x4x512 : Shape := ⟨3, ![1, 4, 512]⟩
abbrev S1x1x1x512 : Shape := ⟨4, ![1, 1, 1, 512]⟩
abbrev S1x1x1x1 : Shape := ⟨4, ![1, 1, 1, 1]⟩

abbrev nBuf : Space → Nat
  | .hbm => 6
  | .vmem => 4
  | .smem => 2
  | _ => 0

abbrev bufTy : (tb : Table) → Fin (tcTables nBuf tb) → BufTy
  | .hbm, ⟨0, _⟩ => ⟨S16x512x512, .f32⟩
  | .hbm, ⟨1, _⟩ => ⟨S16x1x512x512, .f32⟩
  | .hbm, ⟨2, _⟩ => ⟨S16x512x512, .i32⟩
  | .hbm, ⟨3, _⟩ => ⟨S16x512x512, .i32⟩
  | .hbm, ⟨4, _⟩ => ⟨S16x512x512, .f32⟩
  | .hbm, ⟨5, _⟩ => ⟨S1x1, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .i32⟩
  | .local _ .vmem, ⟨3, _⟩ => ⟨S1x512x512, .i32⟩
  | .local _ .smem, ⟨0, _⟩ => ⟨S1x1, .f32⟩
  | .local _ .smem, ⟨1, _⟩ => ⟨S2, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v656 : BitVec 1 := Scalar.cmpi .eq arg0 c15_i32
  let v657 : BitVec 32 := Scalar.extui v656
  let c0_i32_123 : BitVec 32 := 0#32
  let v658 : BitVec 1 := Scalar.cmpi .ne v657 c0_i32_123
  v658

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16x512x512 : Shape := ⟨3, ![16, 512, 512]⟩
abbrev S16x1x512x512 : Shape := ⟨4, ![16, 1, 512, 512]⟩
abbrev S_ : Shape := ⟨0, ![]⟩
abbrev S16x512x541 : Shape := ⟨3, ![16, 512, 541]⟩
abbrev S16x512 : Shape := ⟨2, ![16, 512]⟩
abbrev S16x1x512 : Shape := ⟨3, ![16, 1, 512]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S16x1x512x512, .f32⟩
  | .hbm, ⟨2, _⟩ => ⟨S16x512x512, .i32⟩
  | .hbm, ⟨3, _⟩ => ⟨S16x512x512, .i32⟩
  | .hbm, ⟨4, _⟩ => ⟨S16x1x512x512, .f32⟩
  | .hbm, ⟨5, _⟩ => ⟨S16x512x512, .f32⟩
  | .hbm, ⟨6, _⟩ => ⟨S16x512x512, .f32⟩
  | .hbm, ⟨7, _⟩ => ⟨S_, .f32⟩
  | .hbm, ⟨8, _⟩ => ⟨S16x512x541, .f32⟩
  | .hbm, ⟨9, _⟩ => ⟨S_, .f32⟩
  | .hbm, ⟨10, _⟩ => ⟨S16x512x541, .f32⟩
  | .hbm, ⟨11, _⟩ => ⟨S_, .i32⟩
  | .hbm, ⟨12, _⟩ => ⟨S_, .f32⟩
  | .hbm, ⟨13, _⟩ => ⟨S_, .i32⟩
  | .hbm, ⟨14, _⟩ => ⟨S16x512x541, .f32⟩
  | .hbm, ⟨15, _⟩ => ⟨S16x512x541, .f32⟩
  | .hbm, ⟨16, _⟩ => ⟨S16x512x512, .f32⟩
  | .hbm, ⟨17, _⟩ => ⟨S16x512x512, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S16x512x512, .f32⟩
  | .hbm, ⟨28, _⟩ => ⟨S_, .i32⟩
  | .hbm, ⟨29, _⟩ => ⟨S_, .i32⟩
  | .hbm, ⟨30, _⟩ => ⟨S16x512x512, .f32⟩
  | .hbm, ⟨31, _⟩ => ⟨S16x512x512, .f32⟩
  | .hbm, ⟨32, _⟩ => ⟨S16x512x512, .f32⟩
  | .hbm, ⟨33, _⟩ => ⟨S16x512x512, .f32⟩
  | .hbm, ⟨34, _⟩ => ⟨S16x512x512, .f32⟩
  | .hbm, ⟨35, _⟩ => ⟨S_, .f32⟩
  | .hbm, ⟨36, _⟩ => ⟨S16x512x512, .f32⟩
  | .hbm, ⟨37, _⟩ => ⟨S16x512x512, .i1⟩
  | .hbm, ⟨38, _⟩ => ⟨S16x512x512, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S16x1x512x512, .f32⟩
  | .hbm, ⟨47, _⟩ => ⟨S16x512x512, .f32⟩
  | .hbm, ⟨48, _⟩ => ⟨S16x512x512, .f32⟩
  | .hbm, ⟨49, _⟩ => ⟨S16x512x512, .f32⟩
  | .hbm, ⟨50, _⟩ => ⟨S_, .f32⟩
  | .hbm, ⟨51, _⟩ => ⟨S16x512x512, .f32⟩
  | .hbm, ⟨52, _⟩ => ⟨S16x512x512, .i1⟩
  | .hbm, ⟨53, _⟩ => ⟨S16x512x512, .f32⟩
  | .hbm, ⟨54, _⟩ => ⟨S16x512x512, .f32⟩
  | .hbm, ⟨55, _⟩ => ⟨S_, .f32⟩
  | .hbm, ⟨56, _⟩ => ⟨S16x512, .f32⟩
  | .hbm, ⟨57, _⟩ => ⟨S16x1x512, .f32⟩
  | .hbm, ⟨58, _⟩ => ⟨S_, .f32⟩
  | .hbm, ⟨59, _⟩ => ⟨S_, .f32⟩
  | .hbm, ⟨60, _⟩ => ⟨S16x512x512, .f32⟩
  | .hbm, ⟨61, _⟩ => ⟨S16x512x512, .f32⟩
  | .hbm, ⟨62, _⟩ => ⟨S16x512x512, .f32⟩
  | .hbm, ⟨63, _⟩ => ⟨S16x512x512, .i32⟩
  | .hbm, ⟨64, _⟩ => ⟨S16x512x512, .f32⟩
  | .hbm, ⟨65, _⟩ => ⟨S_, .f32⟩
  | .hbm, ⟨66, _⟩ => ⟨S16x512x512, .f32⟩
  | .hbm, ⟨67, _⟩ => ⟨S16x512x512, .f32⟩
  | .hbm, ⟨68, _⟩ => ⟨S_, .f32⟩
  | .hbm, ⟨69, _⟩ => ⟨S16x512x512, .f32⟩
  | .hbm, ⟨70, _⟩ => ⟨S16x512x512, .f32⟩
  | .hbm, ⟨71, _⟩ => ⟨S16x512x512, .f32⟩
  | .hbm, ⟨72, _⟩ => ⟨S16x512x512, .f32⟩
  | .hbm, ⟨73, _⟩ => ⟨S16x512x512, .f32⟩
  | .hbm, ⟨74, _⟩ => ⟨S_, .f32⟩
  | .hbm, ⟨75, _⟩ => ⟨S16x512x512, .f32⟩
  | .hbm, ⟨76, _⟩ => ⟨S16x512x512, .i1⟩
  | .hbm, ⟨77, _⟩ => ⟨S_, .f32⟩
  | .hbm, ⟨78, _⟩ => ⟨S_, .f32⟩
  | .hbm, ⟨79, _⟩ => ⟨S16x512x512, .f32⟩
  | .hbm, ⟨80, _⟩ => ⟨S16x512x512, .f32⟩
  | .hbm, ⟨81, _⟩ => ⟨S_, .f32⟩
  | .hbm, ⟨82, _⟩ => ⟨S16x512, .f32⟩
  | .hbm, ⟨83, _⟩ => ⟨S16x1x512, .f32⟩
  | .hbm, ⟨84, _⟩ => ⟨S16x512x512, .f32⟩
  | .hbm, ⟨85, _⟩ => ⟨S_, .f32⟩
  | .hbm, ⟨86, _⟩ => ⟨S16x512, .f32⟩
  | .hbm, ⟨87, _⟩ => ⟨S16x1x512, .f32⟩
  | .hbm, ⟨88, _⟩ => ⟨S16x1x512, .f32⟩
  | .hbm, ⟨89, _⟩ => ⟨S_, .f32⟩
  | .hbm, ⟨90, _⟩ => ⟨S16x1x512, .f32⟩
  | .hbm, ⟨91, _⟩ => ⟨S16x1x512, .i1⟩
  | .hbm, ⟨92, _⟩ => ⟨S_, .f32⟩
  | .hbm, ⟨93, _⟩ => ⟨S_, .f32⟩
  | .hbm, ⟨94, _⟩ => ⟨S16x1x512, .f32⟩
  | .hbm, ⟨95, _⟩ => ⟨S16x1x512, .f32⟩
  | .hbm, ⟨96, _⟩ => ⟨S16x512x512, .f32⟩
  | .hbm, ⟨97, _⟩ => ⟨S16x512x512, .f32⟩
  | .hbm, ⟨98, _⟩ => ⟨S16x512x512, .f32⟩
  | .hbm, ⟨99, _⟩ => ⟨S_, .f32⟩
  | .hbm, ⟨100, _⟩ => ⟨S16x512x512, .f32⟩
  | .hbm, ⟨101, _⟩ => ⟨S16x512x512, .i1⟩
  | .hbm, ⟨102, _⟩ => ⟨S16x512x512, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S1x1, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_c : Ref sig .tc := ⟨.hbm, 11, rfl⟩
abbrev main_cst_1 : Ref sig .tc := ⟨.hbm, 12, rfl⟩
abbrev main_c_2 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_while0c_c_25 : Ref sig .tc := ⟨.hbm, 21, rfl⟩
abbrev main_while0c_v51 : Ref sig .tc := ⟨.hbm, 22, rfl⟩
abbrev main_while0b_c_25 : Ref sig .tc := ⟨.hbm, 23, rfl⟩
abbrev main_while0b_v51 : Ref sig .tc := ⟨.hbm, 24, rfl⟩
abbrev main_while0b_c_26 : Ref sig .tc := ⟨.hbm, 25, rfl⟩
abbrev main_while0b_c_27 : Ref sig .tc := ⟨.hbm, 26, rfl⟩
abbrev main_while0b_v52 : Ref sig .tc := ⟨.hbm, 27, rfl⟩
abbrev main_while0b_c_28 : Ref sig .tc := ⟨.hbm, 28, rfl⟩
abbrev main_while0b_c_29 : Ref sig .tc := ⟨.hbm, 29, rfl⟩
abbrev main_while0b_v53 : Ref sig .tc := ⟨.hbm, 30, rfl⟩
abbrev main_while0b_v54 : Ref sig .tc := ⟨.hbm, 31, rfl⟩
abbrev main_while0b_v55 : Ref sig .tc := ⟨.hbm, 32, rfl⟩
abbrev main_while0b_v56 : Ref sig .tc := ⟨.hbm, 33, rfl⟩
abbrev main_while0b_v57 : Ref sig .tc := ⟨.hbm, 34, rfl⟩
abbrev main_while0b_cst_30 : Ref sig .tc := ⟨.hbm, 35, rfl⟩
abbrev main_while0b_v58 : Ref sig .tc := ⟨.hbm, 36, rfl⟩
abbrev main_while0b_v59 : Ref sig .tc := ⟨.hbm, 37, rfl⟩
abbrev main_while0b_v60 : Ref sig .tc := ⟨.hbm, 38, rfl⟩
abbrev main_while0b_cst_31 : Ref sig .tc := ⟨.hbm, 39, rfl⟩
abbrev main_while0b_v61 : Ref sig .tc := ⟨.hbm, 40, rfl⟩
abbrev main_while0b_v62 : Ref sig .tc := ⟨.hbm, 41, rfl⟩
abbrev main_while0b_c_32 : Ref sig .tc := ⟨.hbm, 42, rfl⟩
abbrev main_while0b_v63 : Ref sig .tc := ⟨.hbm, 43, rfl⟩
abbrev main_cst_3 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_4 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_5 : Ref sig .tc := ⟨.hbm, 55, rfl⟩
abbrev main_v15 : Ref sig .tc := ⟨.hbm, 56, rfl⟩
abbrev main_v16 : Ref sig .tc := ⟨.hbm, 57, rfl⟩
abbrev main_cst_6 : Ref sig .tc := ⟨.hbm, 58, rfl⟩
abbrev main_call2_v0 : Ref sig .tc := ⟨.hbm, 59, rfl⟩
abbrev main_call2_v1 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_cst_7 : Ref sig .tc := ⟨.hbm, 65, rfl⟩
abbrev main_v21 : Ref sig .tc := ⟨.hbm, 66, rfl⟩
abbrev main_v22 : Ref sig .tc := ⟨.hbm, 67, rfl⟩
abbrev main_cst_8 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_cst_9 : Ref sig .tc := ⟨.hbm, 74, rfl⟩
abbrev main_v28 : Ref sig .tc := ⟨.hbm, 75, rfl⟩
abbrev main_v29 : Ref sig .tc := ⟨.hbm, 76, rfl⟩
abbrev main_cst_10 : Ref sig .tc := ⟨.hbm, 77, rfl⟩
abbrev main_call4_v0 : Ref sig .tc := ⟨.hbm, 78, rfl⟩
abbrev main_call4_v1 : Ref sig .tc := ⟨.hbm, 79, rfl⟩
abbrev main_v30 : Ref sig .tc := ⟨.hbm, 80, rfl⟩
abbrev main_cst_11 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_12 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_cst_13 : Ref sig .tc := ⟨.hbm, 89, rfl⟩
abbrev main_v37 : Ref sig .tc := ⟨.hbm, 90, rfl⟩
abbrev main_v38 : Ref sig .tc := ⟨.hbm, 91, rfl⟩
abbrev main_cst_14 : Ref sig .tc := ⟨.hbm, 92, rfl⟩
abbrev main_call5_v0 : Ref sig .tc := ⟨.hbm, 93, rfl⟩
abbrev main_call5_v1 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_cst_17 : Ref sig .tc := ⟨.hbm, 105, rfl⟩
abbrev main_v47 : Ref sig .tc := ⟨.hbm, 106, rfl⟩
abbrev main_cst_18 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩

abbrev nD : Nat := 1
abbrev τ : Topo := Topo.v7x

variable {F : FTy → Type} [FloatOps F]

abbrev main_while0_count : Scf.Loop 32 := ⟨0#32, 29#32, 1#32⟩
-- ==== Proof.Fold.lean ====
/- Column sums by halving. The kernel adds up a plane's rows by adding its lower half to its upper half,
   again and again, and sums the few rows left. Every such fold is the plain sum over the rows. -/
module

public import proofs.«01_k».proof.Proof.Gen.KernelIdeal.Skeleton
public import Idealize.ShloMosaic.Lib.Pointwise

@[expose] public section

noncomputable section

namespace Cert.KernelIdeal.Loss

open Idealize.ShloMosaic Cert.KernelIdeal.Gen

/-- The lower half of the rows added to the upper half, summed over the rows, is the sum over all rows. -/
theorem sum_halves {n : ℕ} (f : Fin (n + n) → EReal) :
    ∑ k : Fin n, (f ⟨k.val, by omega⟩ + f ⟨n + k.val, by omega⟩) = ∑ k : Fin (n + n), f k := by
  rw [Finset.sum_add_distrib, Fin.sum_univ_add]
  rfl

/-- One halving of a plane of rows on the middle axis keeps the sum of a column. -/
theorem halve3 {n m : ℕ} (hm : m = n + n) {φ : FTy} (x : FVec Ideal ⟨3, ![1, m, 512]⟩ φ)
    (h0 : Shape.Slices ⟨3, ![1, m, 512]⟩ ![0, 0, 0] ⟨3, ![1, n, 512]⟩)
    (h1 : Shape.Slices ⟨3, ![1, m, 512]⟩ ![0, n, 0] ⟨3, ![1, n, 512]⟩) (w : Fin 512) :
    ∑ k : Fin n, addf (extractStridedSlice ⟨3, ![1, n, 512]⟩ ![0, 0, 0] x h0)
        (extractStridedSlice ⟨3, ![1, n, 512]⟩ ![0, n, 0] x h1) (ix3 0 k w)
      = ∑ k : Fin m, x (ix3 0 k w) := by
  subst hm
  rw [← sum_halves fun k => x (ix3 0 k w)]
  refine Finset.sum_congr rfl fun k _ => congrArg₂ (· + ·) (congrArg x ?_) (congrArg x ?_)
  · funext a
    refine Fin.ext ?_
    fin_cases a <;> simp [extractStridedSlice, Shape.Slices, ix3]
  · funext a
    refine Fin.ext ?_
    fin_cases a <;> simp [extractStridedSlice, Shape.Slices, ix3]

/-- One halving of a plane of rows on the leading axis keeps the sum of a column. -/
theorem halve2 {n m : ℕ} (hm : m = n + n) {φ : FTy} (x : FVec Ideal ⟨2, ![m, 512]⟩ φ)
    (h0 : Shape.Slices ⟨2, ![m, 512]⟩ ![0, 0] ⟨2, ![n, 512]⟩)
    (h1 : Shape.Slices ⟨2, ![m, 512]⟩ ![n, 0] ⟨2, ![n, 512]⟩) (w : Fin 512) :
    ∑ k : Fin n, addf (extractStridedSlice ⟨2, ![n, 512]⟩ ![0, 0] x h0)
        (extractStridedSlice ⟨2, ![n, 512]⟩ ![n, 0] x h1) (ix2 k w)
      = ∑ k : Fin m, x (ix2 k w) := by
  subst hm
  rw [← sum_halves fun k => x (ix2 k w)]
  refine Finset.sum_congr rfl fun k _ => congrArg₂ (· + ·) (congrArg x ?_) (congrArg x ?_)
  · funext a
    refine Fin.ext ?_
    fin_cases a <;> simp [extractStridedSlice, Shape.Slices, ix2]
  · funext a
    refine Fin.ext ?_
    fin_cases a <;> simp [extractStridedSlice, Shape.Slices, ix2]

/-- The last four rows added up. -/
theorem foot_apply (y : FVec Ideal S1x4x512 .bf16) (w : Fin 512) :
    shapeCast S1x1x512 (multiReduction (F := Ideal) .add [1] S1x512 (extf .f32 y bitsLt_bf16_f32) 0x00000000#32
      reduces_S1x4x512_S1x512 (.inl rfl) rfl) shapeCasts_S1x512_S1x1x512 (ix3 0 0 w)
      = ∑ k : Fin 4, y (ix3 0 k w) := by
  pointwise []

/-- Seven halvings and a sum over the last four rows: the sum of each column. -/
theorem colsum_apply (x : FVec Ideal S1x512x512 .bf16) (w : Fin 512) :
    k0_pay21 x (ix3 0 0 w) = ∑ h : Fin 512, x (ix3 0 h w) := by
  refine (foot_apply _ w).trans ?_
  refine (halve3 (n := 4) rfl _ slices_S1x8x512_o0_0_0_S1x4x512 slices_S1x8x512_o0_4_0_S1x4x512 w).trans ?_
  refine (halve3 (n := 8) rfl _ slices_S1x16x512_o0_0_0_S1x8x512 slices_S1x16x512_o0_8_0_S1x8x512 w).trans ?_
  refine (halve3 (n := 16) rfl _ slices_S1x32x512_o0_0_0_S1x16x512 slices_S1x32x512_o0_16_0_S1x16x512 w).trans ?_
  refine (halve3 (n := 32) rfl _ slices_S1x64x512_o0_0_0_S1x32x512 slices_S1x64x512_o0_32_0_S1x32x512 w).trans ?_
  refine (halve3 (n := 64) rfl _ slices_S1x128x512_o0_0_0_S1x64x512 slices_S1x128x512_o0_64_0_S1x64x512 w).trans ?_
  refine (halve3 (n := 128) rfl _ slices_S1x256x512_o0_0_0_S1x128x512 slices_S1x256x512_o0_128_0_S1x128x512 w).trans ?_
  exact halve3 (n := 256) rfl x slices_S1x512x512_o0_0_0_S1x256x512 slices_S1x512x512_o0_256_0_S1x256x512 w

/-- A plane of columns moved `s` places to the left, zeros filling the gap, read at one place. -/
theorem concat_shift {r s : ℕ} (hr : r + s = 512) (x : FVec Ideal S1x512x512 .bf16)
    (z : FVec Ideal ⟨3, ![1, 512, s]⟩ .bf16) (hz : ∀ i, z i = 0)
    (h0 : S1x512x512.Slices ![0, 0, s] ⟨3, ![1, 512, r]⟩)
    (h1 : Shape.Concatenates [⟨3, ![1, 512, r]⟩, ⟨3, ![1, 512, s]⟩] S1x512x512 2)
    (h w : Fin 512) :
    concatenate S1x512x512 2 [⟨⟨3, ![1, 512, r]⟩, extractStridedSlice ⟨3, ![1, 512, r]⟩ ![0, 0, s] x h0⟩,
        ⟨⟨3, ![1, 512, s]⟩, z⟩] h1 (ix3 0 h w)
      = if hw : w.val + s < 512 then x (ix3 0 h ⟨w.val + s, hw⟩) else 0 := by
  rw [concatenate_pair_apply]
  by_cases hw : w.val + s < 512
  · rw [dif_pos hw]
    refine (dif_pos (show w.val < r by omega)).trans (congrArg x ?_)
    funext a
    refine Fin.ext ?_
    fin_cases a <;> simp [ix3, Shape.Idx.norm, add_comm]
  · rw [dif_neg hw]
    exact (dif_neg (show ¬ w.val < r by omega)).trans (hz _)

end Cert.KernelIdeal.Loss

end
-- ==== Proof.Descending.lean ====
/- What one grid point adds to the descending count: over the plane's places, the sum over the 29 shifts of
   the clipped difference between the masked label ahead and the place's own threshold. -/
module

public import proofs.«01_k».proof.Proof.Fold
public import Idealize.ShloMosaic.Lib.IdealHost

@[expose] public section

set_option maxRecDepth 16384

noncomputable section

namespace Cert.KernelIdeal.Loss

open Idealize.ShloMosaic Cert.KernelIdeal.Gen

/-- A number clipped to the unit interval. -/
def clip (x : EReal) : EReal := min (max x 0) 1

/-- The masked label `s` places ahead in the same row, zero past the end of the row. -/
def ahead (x : FVec Ideal S1x512x512 .bf16) (h w : Fin 512) (s : ℕ) : EReal :=
  if hw : w.val + s < 512 then x (ix3 0 h ⟨w.val + s, hw⟩) else 0

/-- The plane added up: three halvings of the rows, the sum of each column, and the sum of the columns. -/
def total (y : FVec Ideal S1x512x512 .bf16) : Ideal .f32 :=
  let y0 : FVec Ideal S512x512 .bf16 := shapeCast S512x512 y shapeCasts_S1x512x512_S512x512
  let y1 := addf (extractStridedSlice S256x512 ![0, 0] y0 slices_S512x512_o0_0_S256x512)
    (extractStridedSlice S256x512 ![256, 0] y0 slices_S512x512_o256_0_S256x512)
  let y2 := addf (extractStridedSlice S128x512 ![0, 0] y1 slices_S256x512_o0_0_S128x512)
    (extractStridedSlice S128x512 ![128, 0] y1 slices_S256x512_o128_0_S128x512)
  let y3 := addf (extractStridedSlice S64x512 ![0, 0] y2 slices_S128x512_o0_0_S64x512)
    (extractStridedSlice S64x512 ![64, 0] y2 slices_S128x512_o64_0_S64x512)
  k0_pay20 (multiReduction .add [1, 2] S1 (shapeCast S1x1x512 (shapeCast S1x512
    (multiReduction .add [0] S512 (extf .f32 y3 bitsLt_bf16_f32) 0x00000000#32 reduces_S64x512_S512 (.inl rfl) rfl)
    shapeCasts_S512_S1x512) shapeCasts_S1x512_S1x1x512) 0x00000000#32 reduces_S1x1x512_S1 (.inl rfl) rfl)

/-- The last 64 rows' column sums added up. -/
theorem total_foot (y : FVec Ideal S64x512 .bf16) :
    k0_pay20 (multiReduction .add [1, 2] S1 (shapeCast S1x1x512 (shapeCast S1x512
      (multiReduction .add [0] S512 (extf .f32 y bitsLt_bf16_f32) 0x00000000#32 reduces_S64x512_S512 (.inl rfl) rfl)
      shapeCasts_S512_S1x512) shapeCasts_S1x512_S1x1x512) 0x00000000#32 reduces_S1x1x512_S1 (.inl rfl) rfl)
      = ∑ w : Fin 512, ∑ k : Fin 64, y (ix2 k w) := by
  pointwise [k0_pay20, extractAt]
  exact Fintype.sum_unique _

/-- The folded total is the sum over the plane's places. -/
theorem total_apply (y : FVec Ideal S1x512x512 .bf16) :
    total y = ∑ w : Fin 512, ∑ h : Fin 512, y (ix3 0 h w) := by
  refine (total_foot _).trans (Finset.sum_congr rfl fun w _ => ?_)
  refine (halve2 (n := 64) rfl _ slices_S128x512_o0_0_S64x512 slices_S128x512_o64_0_S64x512 w).trans ?_
  refine (halve2 (n := 128) rfl _ slices_S256x512_o0_0_S128x512 slices_S256x512_o128_0_S128x512 w).trans ?_
  refine (halve2 (n := 256) rfl _ slices_S512x512_o0_0_S256x512 slices_S512x512_o256_0_S256x512 w).trans ?_
  refine Finset.sum_congr rfl fun h _ => ?_
  pointwise []

/-- The 29 clipped differences of a plane's places, added in the kernel's order, before the total. -/
def descOf (v0 : FVec Ideal S1x512x512 .f32) (v4 : IVec S1x512x512 32) : Ideal .f32 :=
  let v6 := k0_pay5 (F := Ideal) v0 v4
  let v11 := k0_pay6 (F := Ideal) v0 v4
  let v12 := k0_pay7 (F := Ideal)
  let v85 := k0_pay11 v6 v11 v12 (k0_pay8 (F := Ideal) v0 v4) (k0_pay9 (F := Ideal) v0 v4) (k0_pay10 (F := Ideal))
  let v139 := k0_pay13 v6 v11 v12 v85 (k0_pay12 v6 v11 v12)
  let v184 := k0_pay15 v6 v11 v12 v139 (k0_pay14 v6)
  let v238 := k0_pay18 v6 v11 v12 v184 (k0_pay16 v6 v11 v12) (k0_pay17 (F := Ideal))
  k0_pay20 (k0_pay19 v6 v11 v12 v238)

/-- The zeros that fill a shifted plane. -/
theorem fill_apply (i : S1x512x29.Idx) : k0_pay7 (F := Ideal) i = 0 := by
  pointwise [k0_pay7]

/-- A shifted plane with the fill cut to the gap's width. -/
theorem shift_apply {r s : ℕ} (hr : r + s = 512) (x : FVec Ideal S1x512x512 .bf16)
    (h0 : S1x512x512.Slices ![0, 0, s] ⟨3, ![1, 512, r]⟩)
    (h2 : S1x512x29.Slices ![0, 0, 0] ⟨3, ![1, 512, s]⟩)
    (h1 : Shape.Concatenates [⟨3, ![1, 512, r]⟩, ⟨3, ![1, 512, s]⟩] S1x512x512 2)
    (h w : Fin 512) :
    concatenate S1x512x512 2 [⟨⟨3, ![1, 512, r]⟩, extractStridedSlice ⟨3, ![1, 512, r]⟩ ![0, 0, s] x h0⟩,
        ⟨⟨3, ![1, 512, s]⟩, extractStridedSlice ⟨3, ![1, 512, s]⟩ ![0, 0, 0] (k0_pay7 (F := Ideal)) h2⟩] h1
        (ix3 0 h w)
      = ahead x h w s :=
  concat_shift hr x _ (fun _ => fill_apply _) h0 h1 h w

/-- A plane shifted by the full width of the fill. -/
theorem shift_full_apply {r : ℕ} (hr : r + 29 = 512) (x : FVec Ideal S1x512x512 .bf16)
    (h0 : S1x512x512.Slices ![0, 0, 29] ⟨3, ![1, 512, r]⟩)
    (h1 : Shape.Concatenates [⟨3, ![1, 512, r]⟩, ⟨3, ![1, 512, 29]⟩] S1x512x512 2)
    (h w : Fin 512) :
    concatenate S1x512x512 2 [⟨⟨3, ![1, 512, r]⟩, extractStridedSlice ⟨3, ![1, 512, r]⟩ ![0, 0, 29] x h0⟩,
        ⟨⟨3, ![1, 512, 29]⟩, k0_pay7 (F := Ideal)⟩] h1 (ix3 0 h w)
      = ahead x h w 29 :=
  concat_shift hr x _ fill_apply h0 h1 h w

/-- The bf16 word of one. -/
theorem one_bf16 : (Scalar.ofBits (F := Ideal) .bf16 0x3F80#16 : EReal) = 1 :=
  Ideal.ofBits_one_bf16

/-- The bf16 word of zero. -/
theorem zero_bf16 : (Scalar.ofBits (F := Ideal) .bf16 0x0000#16 : EReal) = 0 := by
  pointwise []

/-- The descending count of one plane. -/
theorem descOf_eq (v0 : FVec Ideal S1x512x512 .f32) (v4 : IVec S1x512x512 32) :
    descOf v0 v4 = ∑ w : Fin 512, ∑ h : Fin 512, ∑ s ∈ Finset.range 29,
      clip (ahead (k0_pay5 (F := Ideal) v0 v4) h w (s + 1) - k0_pay6 (F := Ideal) v0 v4 (ix3 0 h w)) := by
  refine (total_apply _).trans (Finset.sum_congr rfl fun w _ => Finset.sum_congr rfl fun h _ => ?_)
  simp only [k0_pay8, k0_pay9, k0_pay10, k0_pay11, k0_pay12, k0_pay13, k0_pay14, k0_pay15, k0_pay16, k0_pay17,
    k0_pay18, ValueIdx.addf_apply, ValueIdx.subf_apply, ValueIdx.maximumf_apply,
    ValueIdx.minimumf_apply, ValueIdx.broadcast_apply, one_bf16, zero_bf16,
    shift_apply, shift_full_apply, Finset.sum_range_succ, Finset.sum_range_zero, Nat.reduceAdd, clip]

end Cert.KernelIdeal.Loss

end
-- ==== Proof.Vertical.lean ====
/- What one grid point adds to the vertical count: for each column, the number of its masked places less the
   number that equal the column's median, the median found by halving an interval of labels five times. -/
module

public import proofs.«01_k».proof.Proof.Descending

@[expose] public section

set_option maxRecDepth 16384

noncomputable section

namespace Cert.KernelIdeal.Loss

open Idealize.ShloMosaic Cert.KernelIdeal.Gen

/-! ## The numbers of one column -/

/-- One half. -/
def half : EReal := ((1 / 2 : ℝ) : EReal)

/-- How many places of a column are not zero, the labels being whole numbers. -/
def countOf (P : Fin 512 → EReal) : EReal := ∑ h, min (P h) 1

/-- How many places that are not zero lie at or below `v`. -/
def rankOf (P : Fin 512 → EReal) (v : EReal) : EReal :=
  ∑ h, clip (v + 1 - P h) - (((512 : ℝ) : EReal) - countOf P)

/-- The rank of the lower middle value. -/
def lowOf (P : Fin 512 → EReal) : EReal := Ideal.liftRound Int.floor ((countOf P + 1) * half)

/-- The rank of the upper middle value. -/
def highOf (P : Fin 512 → EReal) : EReal := Ideal.liftRound Int.floor (countOf P * half) + 1

/-- The middle of an interval of labels, rounded down. -/
def midOf (a b : EReal) : EReal := Ideal.liftRound Int.floor ((a + b) * half)

/-- One halving of the interval that holds the lower middle value. -/
def halvingOf (P : Fin 512 → EReal) (I : EReal × EReal) : EReal × EReal :=
  if lowOf P ≤ rankOf P (midOf I.1 I.2) then (I.1, midOf I.1 I.2) else (midOf I.1 I.2 + 1, I.2)

/-- The lower middle value: the left end after five halvings of the labels 1 to 26. -/
def lowerOf (P : Fin 512 → EReal) : EReal :=
  (halvingOf P (halvingOf P (halvingOf P (halvingOf P (halvingOf P (1, ((26 : ℝ) : EReal))))))).1

/-- What a column contributes. -/
def columnOf (P M : Fin 512 → EReal) : EReal :=
  if 0 < countOf P then
    ∑ h, M h - (if highOf P ≤ rankOf P (lowerOf P) then
      ∑ h, max (1 - (P h - lowerOf P) * (P h - lowerOf P)) 0 else 0)
  else 0

/-! ## The same numbers, a vector of columns at a time, in the kernel's operations -/

/-- A vector of one number. -/
abbrev Cols := FVec Ideal S1x1x512 .f32

/-- A plane. -/
abbrev Plane := FVec Ideal S1x512x512 .bf16

/-- One in every column. -/
def ones : Cols := broadcast S1x1x512 (Scalar.ofBits .f32 0x3F800000#32)

/-- The rank of a value in every column. -/
def rankVec (v6 : Plane) (z v : Cols) : Cols :=
  subf (k0_pay21 (minimumf (maximumf (subf (broadcastTo S1x512x512 (truncf .bf16 (addf v ones) bitsLt_bf16_f32)
    broadcasts_S1x1x512_S1x512x512) v6) (broadcast S1x512x512 (Scalar.ofBits .bf16 0x0000#16)))
    (broadcast S1x512x512 (Scalar.ofBits .bf16 0x3F80#16)))) z

/-- The middle in every column. -/
def midVec (a b : Cols) : Cols :=
  floor (mulf (addf a b) (broadcast S1x1x512 (Scalar.ofBits .f32 0x3F000000#32)))

/-- Whether the middle reaches the lower rank, in every column. -/
def reach (v6 : Plane) (z k a b : Cols) : IVec S1x1x512 1 := cmpf .oge (rankVec v6 z (midVec a b)) k

/-- The left end after a halving, in every column. -/
def leftVec (v6 : Plane) (z k a b : Cols) : Cols := select (reach v6 z k a b) a (addf (midVec a b) ones)

/-- The right end after a halving, in every column. -/
def rightVec (v6 : Plane) (z k a b : Cols) : Cols := select (reach v6 z k a b) (midVec a b) b

/-- The clipped total of the columns' contributions, over the payloads in the kernel's order. -/
def vertOf (v0 : FVec Ideal S1x512x512 .f32) (v4 : IVec S1x512x512 32) : Ideal .f32 :=
  let v5 := k0_pay4 (F := Ideal) v4
  let v6 := k0_pay5 (F := Ideal) v0 v4
  let v340 := k0_pay22 v6
  let v342 := k0_pay23 v6
  let v343 := k0_pay24 (F := Ideal)
  let v347 := k0_pay25 v340 v343
  let v353 := k0_pay27 (F := Ideal)
  let v354 := k0_pay28 (F := Ideal)
  let v358 := k0_pay29 (F := Ideal)
  let v393 := k0_pay30 v6 v340 v342 v343
  let v437 := k0_pay35 v6 v342 v347 v353 v354 v358 v393
  let v440 := k0_pay36 v6 v342 v347 v353 v354 v358 v393
  let v444 := k0_pay37 v6 v342 v347 v353 v354 v358 v393
  let c := (Scalar.ofBits .f32 0x3F800000#32 : Ideal .f32)
  let v480 := k0_pay39 v6 v342 v347 v437 v444 c
  let v483 := k0_pay40 v6 v342 v347 v440 v444 c
  let v487 := k0_pay41 v6 v342 v347 v437 v440 v444 c
  let v496 := k0_pay42 v6 v342 v347 v437 v440 v444 c
  let v526 := k0_pay44 v342 v347 v483 v487 v496
  let v530 := k0_pay45 v342 v347 v480 v483 v487 v496
  let v549 := k0_pay47 v6 v342 v347 v480 v483 v487 v496
  let v550 := k0_pay48 v6 v342 v347 v480 v483 v487 v496
  k0_pay52 v6 (k0_pay21 v5) v340 (k0_pay50 v6 v342 v347 (k0_pay26 v340) v526 v530 v549 v550)
    (k0_pay51 v342 v347 v526 v530 v549 v550)

/-- The interval's ends after `n` halvings, in every column. -/
def ends (v6 : Plane) (z k : Cols) : ℕ → Cols × Cols
  | 0 => (ones, broadcast S1x1x512 (Scalar.ofBits .f32 0x41D00000#32))
  | n + 1 => (leftVec v6 z k (ends v6 z k n).1 (ends v6 z k n).2, rightVec v6 z k (ends v6 z k n).1 (ends v6 z k n).2)

/-- The columns' contributions added up, from the lower middle value of every column. -/
def finish (v6 : Plane) (m n z k : Cols) (lo : Cols) : Ideal .f32 :=
  k0_pay52 v6 m n (cmpf .oge (rankVec v6 z lo) k) (truncf .bf16 lo bitsLt_bf16_f32)

/-- The payloads' total is five halvings and the columns' contributions added up. -/
theorem vertOf_steps (v0 : FVec Ideal S1x512x512 .f32) (v4 : IVec S1x512x512 32) :
    vertOf v0 v4 = finish (k0_pay5 (F := Ideal) v0 v4) (k0_pay21 (k0_pay4 (F := Ideal) v4)) (k0_pay22 (k0_pay5 (F := Ideal) v0 v4))
      (k0_pay23 (k0_pay5 (F := Ideal) v0 v4)) (k0_pay26 (k0_pay22 (k0_pay5 (F := Ideal) v0 v4)))
      (ends (k0_pay5 (F := Ideal) v0 v4) (k0_pay23 (k0_pay5 (F := Ideal) v0 v4))
        (k0_pay25 (k0_pay22 (k0_pay5 (F := Ideal) v0 v4)) ones) 5).1 := by
  generalize hv6 : k0_pay5 (F := Ideal) v0 v4 = v6
  simp only [vertOf, hv6]
  generalize k0_pay22 v6 = v340
  generalize k0_pay23 v6 = v342
  rfl

/-! ## The kernel's operations read at a column -/

/-- The f32 word of one. -/
theorem one_f32 : (Scalar.ofBits (F := Ideal) .f32 0x3F800000#32 : EReal) = 1 := Ideal.ofBits_one_f32

/-- The f32 word of one half. -/
theorem half_f32 : (Scalar.ofBits (F := Ideal) .f32 0x3F000000#32 : EReal) = half := by
  show Ideal.ofBits .f32 0x3F000000#32 = _
  simp [Ideal.ofBits, Ideal.ieee, half, -EReal.coe_mul]; norm_num

/-- The f32 word of 512. -/
theorem rows_f32 : (Scalar.ofBits (F := Ideal) .f32 0x44000000#32 : EReal) = ((512 : ℝ) : EReal) := by
  show Ideal.ofBits .f32 0x44000000#32 = _
  simp [Ideal.ofBits, Ideal.ieee, -EReal.coe_mul]; norm_num

/-- The f32 word of 26. -/
theorem top_f32 : (Scalar.ofBits (F := Ideal) .f32 0x41D00000#32 : EReal) = ((26 : ℝ) : EReal) := by
  show Ideal.ofBits .f32 0x41D00000#32 = _
  simp [Ideal.ofBits, Ideal.ieee, -EReal.coe_mul]; norm_num

/-- A choice by a comparison `≥` is a choice by the order. -/
theorem select_oge {α : Type} (x y : EReal) (a b : α) :
    Scalar.select (Ideal.cmp .oge x y) a b = if y ≤ x then a else b := by
  by_cases h : y ≤ x <;> simp [Ideal.cmp, Scalar.select, h]

/-- A choice by a comparison `>` is a choice by the order. -/
theorem select_ogt {α : Type} (x y : EReal) (a b : α) :
    Scalar.select (Ideal.cmp .ogt x y) a b = if y < x then a else b := by
  by_cases h : y < x <;> simp [Ideal.cmp, Scalar.select, h]

/-- A vector of columns laid over every row of a plane. -/
theorem spread_apply (v : FVec Ideal S1x1x512 .bf16) (h w : Fin 512) :
    broadcastTo S1x512x512 v broadcasts_S1x1x512_S1x512x512 (ix3 0 h w) = v (ix3 0 0 w) := by
  pointwise []

/-- The column of a plane. -/
def col (v6 : Plane) (w : Fin 512) (h : Fin 512) : EReal := v6 (ix3 0 h w)

theorem ones_apply (i : S1x1x512.Idx) : ones i = 1 := one_f32

/-- The count of a column. -/
theorem count_apply (v6 : Plane) (w : Fin 512) : k0_pay22 v6 (ix3 0 0 w) = countOf (col v6 w) := by
  refine (colsum_apply (minimumf v6 (broadcast S1x512x512 (Scalar.ofBits .bf16 0x3F80#16))) w).trans ?_
  simp only [ValueIdx.minimumf_apply, ValueIdx.broadcast_apply, one_bf16, countOf, col]

/-- The number of a column's zeros. -/
theorem zeros_apply (v6 : Plane) (w : Fin 512) :
    k0_pay23 v6 (ix3 0 0 w) = ((512 : ℝ) : EReal) - countOf (col v6 w) := by
  simp only [k0_pay23, ValueIdx.subf_apply, ValueIdx.broadcast_apply, count_apply, rows_f32]

/-- The rank of a value in a column. -/
theorem rank_apply (v6 : Plane) (v : Cols) (w : Fin 512) :
    rankVec v6 (k0_pay23 v6) v (ix3 0 0 w) = rankOf (col v6 w) (v (ix3 0 0 w)) := by
  simp only [rankVec, rankOf, ValueIdx.subf_apply, zeros_apply, colsum_apply, ValueIdx.minimumf_apply,
    ValueIdx.maximumf_apply, ValueIdx.broadcast_apply, spread_apply, ValueIdx.truncf_apply, ValueIdx.addf_apply,
    ones_apply, one_bf16, zero_bf16, clip, col]

/-- The middle of a column's interval. -/
theorem mid_apply (a b : Cols) (i : S1x1x512.Idx) : midVec a b i = midOf (a i) (b i) := by
  show Ideal.liftRound Int.floor ((a i + b i) * (Scalar.ofBits (F := Ideal) .f32 0x3F000000#32 : EReal)) = _
  rw [half_f32]; rfl

/-- The lower rank of a column. -/
theorem low_apply (v6 : Plane) (w : Fin 512) :
    k0_pay25 (k0_pay22 v6) ones (ix3 0 0 w) = lowOf (col v6 w) := by
  show Ideal.liftRound Int.floor ((k0_pay22 v6 (ix3 0 0 w) + ones (ix3 0 0 w)) *
    (Scalar.ofBits (F := Ideal) .f32 0x3F000000#32 : EReal)) = _
  rw [half_f32, count_apply, ones_apply]; rfl

/-- The upper rank of a column. -/
theorem high_apply (v6 : Plane) (w : Fin 512) :
    k0_pay26 (k0_pay22 v6) (ix3 0 0 w) = highOf (col v6 w) := by
  show Ideal.liftRound Int.floor (k0_pay22 v6 (ix3 0 0 w) *
    (Scalar.ofBits (F := Ideal) .f32 0x3F000000#32 : EReal)) + (Scalar.ofBits (F := Ideal) .f32 0x3F800000#32 : EReal) = _
  rw [half_f32, count_apply, one_f32]; rfl

/-- One halving in a column. -/
theorem halving_apply (v6 : Plane) (a b : Cols) (w : Fin 512) :
    (leftVec v6 (k0_pay23 v6) (k0_pay25 (k0_pay22 v6) ones) a b (ix3 0 0 w),
      rightVec v6 (k0_pay23 v6) (k0_pay25 (k0_pay22 v6) ones) a b (ix3 0 0 w))
      = halvingOf (col v6 w) (a (ix3 0 0 w), b (ix3 0 0 w)) := by
  simp only [leftVec, rightVec, reach, ValueIdx.select_apply, ValueIdx.cmpf_apply, Ideal.cmpf_def, select_oge,
    rank_apply, mid_apply, low_apply, ValueIdx.addf_apply, ones_apply, halvingOf]
  split_ifs <;> rfl

/-- The interval's ends after `n` halvings, in a column. -/
theorem ends_apply (v6 : Plane) (w : Fin 512) (n : ℕ) :
    ((ends v6 (k0_pay23 v6) (k0_pay25 (k0_pay22 v6) ones) n).1 (ix3 0 0 w),
      (ends v6 (k0_pay23 v6) (k0_pay25 (k0_pay22 v6) ones) n).2 (ix3 0 0 w))
      = (halvingOf (col v6 w))^[n] (1, ((26 : ℝ) : EReal)) := by
  induction n with
  | zero => exact Prod.ext (ones_apply (ix3 0 0 w)) top_f32
  | succ n ih => rw [Function.iterate_succ_apply', ← ih]; exact halving_apply v6 _ _ w

/-- The lower middle value of a column. -/
theorem lower_apply (v6 : Plane) (w : Fin 512) :
    (ends v6 (k0_pay23 v6) (k0_pay25 (k0_pay22 v6) ones) 5).1 (ix3 0 0 w) = lowerOf (col v6 w) :=
  congrArg Prod.fst (ends_apply v6 w 5)

/-- The columns' numbers added up. -/
theorem gather_apply (y : Cols) :
    extractAt ![0, 0, 0, 0] (shapeCast S1x1x1x1 (multiReduction (F := Ideal) .add [1, 2, 3] S1
      (shapeCast S1x1x1x512 y shapeCasts_S1x1x512_S1x1x1x512) 0x00000000#32 reduces_S1x1x1x512_S1 (.inl rfl) rfl)
      shapeCasts_S1_S1x1x1x1) inpos_S1x1x1x1_p0_0_0_0 = ∑ w : Fin 512, y (ix3 0 0 w) := by
  pointwise [extractAt]
  rw [Ideal.reduceAdd_total _ (by decide), sum_idx4]
  simp only [Finset.univ_unique, Finset.sum_singleton, Fin.default_eq_zero]
  refine Finset.sum_congr rfl fun w _ => ?_
  pointwise []

/-- The vertical count of one plane. -/
theorem vertOf_eq (v0 : FVec Ideal S1x512x512 .f32) (v4 : IVec S1x512x512 32) :
    vertOf v0 v4 = ∑ w : Fin 512, columnOf (col (k0_pay5 (F := Ideal) v0 v4) w) (col (k0_pay4 (F := Ideal) v4) w) := by
  rw [vertOf_steps]
  refine (gather_apply _).trans (Finset.sum_congr rfl fun w _ => ?_)
  generalize k0_pay5 (F := Ideal) v0 v4 = v6
  generalize hv5 : k0_pay4 (F := Ideal) v4 = v5
  have hz : (Scalar.ofBits (F := Ideal) .f32 0x00000000#32 : EReal) = 0 := by pointwise []
  have he : ∀ lo : Cols, (k0_pay21 (maximumf (subf (broadcast S1x512x512 (Scalar.ofBits .bf16 0x3F80#16))
      (mulf (subf v6 (broadcastTo S1x512x512 (truncf .bf16 lo bitsLt_bf16_f32) broadcasts_S1x1x512_S1x512x512))
        (subf v6 (broadcastTo S1x512x512 (truncf .bf16 lo bitsLt_bf16_f32) broadcasts_S1x1x512_S1x512x512))))
      (broadcast S1x512x512 (Scalar.ofBits .bf16 0x0000#16)))) (ix3 0 0 w)
      = ∑ h, max (1 - (col v6 w h - lo (ix3 0 0 w)) * (col v6 w h - lo (ix3 0 0 w))) 0 := fun lo => by
    simp only [colsum_apply, ValueIdx.maximumf_apply, ValueIdx.subf_apply, ValueIdx.mulf_apply,
      ValueIdx.broadcast_apply, spread_apply, ValueIdx.truncf_apply, one_bf16, zero_bf16, col]
  have hm : k0_pay21 v5 (ix3 0 0 w) = ∑ h, col v5 w h := colsum_apply v5 w
  rw [columnOf, ← lower_apply, ← he, ← rank_apply, ← high_apply, ← hm, ← count_apply, ← select_oge, ← select_ogt, ← hz]
  rfl

end Cert.KernelIdeal.Loss

end
-- ==== Proof.Counts.lean ====
/- Whole numbers among the extended reals: sums of them, the indicator a clipped difference is, and the halves
   that are rounded down. -/
module

public import proofs.«01_k».proof.Proof.Vertical

@[expose] public section

noncomputable section

namespace Cert.KernelIdeal.Loss

open Idealize.ShloMosaic

/-- A natural number as an extended real. -/
abbrev nat (n : ℕ) : EReal := ((n : ℝ) : EReal)

theorem nat_zero : nat 0 = 0 := by simp [nat]

theorem nat_one : nat 1 = 1 := by simp [nat]

theorem nat_add (a b : ℕ) : nat (a + b) = nat a + nat b := by simp [nat]

theorem nat_le_nat (a b : ℕ) : nat a ≤ nat b ↔ a ≤ b := by simp [nat]

theorem nat_lt_nat (a b : ℕ) : nat a < nat b ↔ a < b := by simp [nat]

theorem nat_inj (a b : ℕ) : nat a = nat b ↔ a = b := by simp [nat]

/-- Half a natural number, rounded down. -/
theorem floor_half (n : ℕ) : ⌊(n : ℝ) * (1 / 2)⌋ = ((n / 2 : ℕ) : ℤ) := by
  rw [Int.floor_eq_iff]
  have h1 : 2 * (n / 2) ≤ n := by omega
  have h2 : n < 2 * (n / 2) + 2 := by omega
  have h1' : (2 : ℝ) * ((n / 2 : ℕ) : ℝ) ≤ (n : ℝ) := by exact_mod_cast h1
  have h2' : (n : ℝ) < 2 * ((n / 2 : ℕ) : ℝ) + 2 := by exact_mod_cast h2
  rw [Int.cast_natCast]
  constructor <;> linarith

/-- The same of an extended real. -/
theorem round_half (n : ℕ) : Ideal.liftRound Int.floor (nat n * half) = nat (n / 2) := by
  rw [half, ← EReal.coe_mul, Ideal.liftRound_coe, floor_half]
  norm_cast

/-- A sum of natural numbers. -/
theorem sum_nat {ι : Type} (s : Finset ι) (f : ι → ℕ) : ∑ h ∈ s, nat (f h) = nat (∑ h ∈ s, f h) := by
  classical
  induction s using Finset.induction_on with
  | empty => simp [nat]
  | insert a s ha ih => rw [Finset.sum_insert ha, Finset.sum_insert ha, ih, nat_add]

/-- The indicator of a property, as the natural number it is. -/
theorem ind_nat (q : Prop) [Decidable q] : (if q then (1 : EReal) else 0) = nat (if q then 1 else 0) := by
  split
  · exact nat_one.symm
  · exact nat_zero.symm

/-- How many places have a property. -/
theorem sum_ind {ι : Type} (s : Finset ι) (q : ι → Prop) [DecidablePred q] :
    ∑ h ∈ s, (if q h then (1 : EReal) else 0) = nat (s.filter q).card := by
  rw [Finset.card_filter, ← sum_nat]
  exact Finset.sum_congr rfl fun h _ => ind_nat (q h)

/-- A whole number clipped to the range from zero to one tells whether it is positive. -/
theorem clip_int (z : ℤ) : clip (((z : ℝ)) : EReal) = if 0 < z then 1 else 0 := by
  unfold clip
  split
  · rename_i h
    have h1 : (1 : EReal) ≤ ((z : ℝ) : EReal) := by
      have : (1 : ℝ) ≤ (z : ℝ) := by exact_mod_cast h
      exact_mod_cast this
    rw [max_eq_left (le_trans zero_le_one h1), min_eq_right h1]
  · rename_i h
    have h1 : ((z : ℝ) : EReal) ≤ 0 := by
      have : (z : ℝ) ≤ 0 := by exact_mod_cast not_lt.mp h
      exact_mod_cast this
    rw [max_eq_right h1, min_eq_left zero_le_one]

/-- The smaller of a natural number and one tells whether it is not zero. -/
theorem min_nat (n : ℕ) : min (nat n) 1 = if n ≠ 0 then 1 else 0 := by
  split
  · rename_i h
    rw [← nat_one]
    exact min_eq_right ((nat_le_nat 1 n).mpr (Nat.one_le_iff_ne_zero.mpr h))
  · rename_i h
    rw [not_not.mp h, nat_zero]
    exact min_eq_left zero_le_one

/-- One less a squared difference, at least zero, tells whether the two numbers are equal. -/
theorem hit_nat (a b : ℕ) : max (1 - (nat a - nat b) * (nat a - nat b)) 0 = if a = b then 1 else 0 := by
  have e : (1 - (nat a - nat b) * (nat a - nat b) : EReal)
      = (((1 - ((a : ℤ) - b) * ((a : ℤ) - b) : ℤ) : ℝ) : EReal) := by
    push_cast
    norm_cast
  rw [e]
  split
  · rename_i h
    subst h
    simp
  · rename_i h
    have hz : ((a : ℤ) - b) ≠ 0 := by omega
    have h1 : (1 - ((a : ℤ) - b) * ((a : ℤ) - b)) ≤ 0 := by nlinarith [Int.one_le_abs hz, abs_mul_abs_self ((a : ℤ) - b)]
    apply max_eq_right
    have : (((1 - ((a : ℤ) - b) * ((a : ℤ) - b) : ℤ)) : ℝ) ≤ 0 := by exact_mod_cast h1
    exact_mod_cast this

end Cert.KernelIdeal.Loss

end
-- ==== Proof.Labels.lean ====
/- What the precondition says of the arguments: every prediction rounds to a label from 0 to 26, and every word of
   the mask is zero or one. -/
module

public import proofs.«01_k».proof.Pre_labels_and_masks
public import Idealize.ShloMosaic.Lib.ReduceAll
public import proofs.«01_k».proof.Proof.Counts

@[expose] public section

noncomputable section

namespace Cert.Pre_labels_and_masks

open Idealize.ShloMosaic

/-- The side conditions of the precondition's operations. -/
theorem facts : Cert.Pre_labels_and_masks.Facts where
  bcast_S_S16x1x512x512 := by decide
  reducesTo_S16x1x512x512_S_d0_1_2_3 := by decide
  h_S_ := by decide
  bcast_S_S16x512x512 := by decide
  reducesTo_S16x512x512_S_d0_1_2 := by decide

end Cert.Pre_labels_and_masks

namespace Cert.KernelIdeal.Loss

open Idealize.ShloMosaic

/-- A real number from 0 to 26 rounds to a whole number from 0 to 26. -/
theorem round_range (r : ℝ) (h0 : 0 ≤ r) (h1 : r ≤ 26) :
    ∃ n : ℕ, n ≤ 26 ∧ Ideal.roundHalfEven r = (n : ℤ) := by
  have hf0 : 0 ≤ ⌊r⌋ := Int.floor_nonneg.mpr h0
  have hf1 : ⌊r⌋ ≤ 26 := by
    have : ((⌊r⌋ : ℤ) : ℝ) ≤ 26 := (Int.floor_le r).trans h1
    exact_mod_cast this
  have hup : (1 / 2 ≤ r - ⌊r⌋) → ⌊r⌋ + 1 ≤ 26 := by
    intro h
    by_contra hc
    have h26 : ⌊r⌋ = 26 := by omega
    rw [h26] at h
    push_cast at h
    linarith
  have hz : 0 ≤ Ideal.roundHalfEven r ∧ Ideal.roundHalfEven r ≤ 26 := by
    unfold Ideal.roundHalfEven
    simp only
    split
    · exact ⟨hf0, hf1⟩
    · rename_i h
      have := hup (not_lt.mp h)
      split
      · exact ⟨by omega, this⟩
      · split
        · exact ⟨hf0, hf1⟩
        · exact ⟨by omega, this⟩
  exact ⟨(Ideal.roundHalfEven r).toNat, by omega, by omega⟩

/-- So does an extended real from 0 to 26. -/
theorem round_label (x : EReal) (h0 : 0 ≤ x) (h1 : x ≤ ((26 : ℝ) : EReal)) :
    ∃ n : ℕ, n ≤ 26 ∧ Ideal.liftRound Ideal.roundHalfEven x = nat n := by
  have hb : x ≠ ⊥ := fun h => by
    rw [h] at h0
    exact absurd h0 (not_le.mpr EReal.bot_lt_zero)
  have ht : x ≠ ⊤ := fun h => by
    rw [h] at h1
    exact absurd h1 (not_le.mpr (EReal.coe_lt_top _))
  lift x to ℝ using ⟨ht, hb⟩
  obtain ⟨n, hn, e⟩ := round_range x (by exact_mod_cast h0) (by exact_mod_cast h1)
  refine ⟨n, hn, ?_⟩
  rw [Ideal.liftRound_coe, e, Int.cast_natCast]

theorem zero_f32' : Ideal.ofBits .f32 0x00000000#32 = 0 := by
  simp [Ideal.ofBits, Ideal.ieee, -EReal.coe_mul]

theorem labels_f32 : Ideal.ofBits .f32 0x41D00000#32 = ((26 : ℝ) : EReal) := by
  simp [Ideal.ofBits, Ideal.ieee, -EReal.coe_mul]
  norm_num

/-- The precondition, place by place. -/
theorem of_pre [Cert.Pre_labels_and_masks.Facts] (a0 : FVec Ideal ⟨3, ![16, 512, 512]⟩ .f32)
    (a1 : FVec Ideal ⟨4, ![16, 1, 512, 512]⟩ .f32) (a2 a3 : IVec ⟨3, ![16, 512, 512]⟩ 32)
    (e : Cert.Pre_labels_and_masks.fn (F := Ideal) a0 a1 a2 a3 = fun _ => 1#1) :
    (∀ i, ∃ n : ℕ, n ≤ 26 ∧ Ideal.liftRound Ideal.roundHalfEven (a1 i) = nat n) ∧
      ∀ i, ∃ k : ℕ, (k = 0 ∨ k = 1) ∧ (((a2 i).toInt : ℝ) : EReal) = nat k := by
  have e0 := congrFun e ix0
  unfold Cert.Pre_labels_and_masks.fn at e0
  simp only [andi] at e0
  have hand : ∀ a b : BitVec 1, a &&& b = 1#1 → a = 1#1 ∧ b = 1#1 := by decide
  have hor : ∀ a b : BitVec 1, a ||| b = 1#1 → a = 1#1 ∨ b = 1#1 := by decide
  have hbool : ∀ b : Bool, BitVec.ofBool b = 1#1 → b = true := by decide
  obtain ⟨e1, e2⟩ := hand _ _ e0
  haveI : Subsingleton (Cert.Pre_labels_and_masks.S_).Idx := ⟨fun a b => funext fun k => k.elim0⟩
  constructor
  · intro i
    have h := Host.reduce_andi_all _ _ _ _ _ e1 i
    obtain ⟨h1, h2⟩ := hand _ _ h
    have h1' : Ideal.cmp .oge (a1 i) (Ideal.ofBits .f32 0x00000000#32) = 1#1 := h1
    have h2' : Ideal.cmp .ole (a1 i) (Ideal.ofBits .f32 0x41D00000#32) = 1#1 := h2
    rw [zero_f32'] at h1'
    rw [labels_f32] at h2'
    exact round_label (a1 i) (of_decide_eq_true (hbool _ h1')) (of_decide_eq_true (hbool _ h2'))
  · intro i
    have h := Host.reduce_andi_all _ _ _ _ _ e2 i
    rcases hor _ _ h with h1 | h1
    · have h1' : IntOp.cmpi .eq (a2 i) 0#32 = 1#1 := h1
      have : a2 i = 0#32 := eq_of_beq (hbool _ h1')
      exact ⟨0, Or.inl rfl, by rw [this]; simp [nat]⟩
    · have h1' : IntOp.cmpi .eq (a2 i) 1#32 = 1#1 := h1
      have : a2 i = 1#32 := eq_of_beq (hbool _ h1')
      exact ⟨1, Or.inr rfl, by rw [this]; simp [nat]⟩

end Cert.KernelIdeal.Loss

end
-- ==== Proof.Order.lean ====
/- The middle of a sorted column: where the entries at or below a value end, and what the mean of the middle
   entries equals. -/
module

public import proofs.«01_k».proof.Proof.Counts

@[expose] public section

noncomputable section

namespace Cert.KernelIdeal.Loss

open Idealize.ShloMosaic

/-- How many labels of a column are not zero. -/
def num (p : Fin 512 → ℕ) : ℕ := (Finset.univ.filter fun h => p h ≠ 0).card

/-- How many labels of a column are not zero and at most `v`. -/
def rk (p : Fin 512 → ℕ) (v : ℕ) : ℕ := (Finset.univ.filter fun h => p h ≠ 0 ∧ p h ≤ v).card

theorem rk_mono (p : Fin 512 → ℕ) {a b : ℕ} (h : a ≤ b) : rk p a ≤ rk p b :=
  Finset.card_le_card fun x hx => by
    simp only [Finset.mem_filter] at hx ⊢
    exact ⟨hx.1, hx.2.1, hx.2.2.trans h⟩

/-- A value that occurs counts. -/
theorem rk_lt (p : Fin 512 → ℕ) {a b : ℕ} (h : Fin 512) (h0 : p h ≠ 0) (ha : a < p h) (hb : p h ≤ b) :
    rk p a < rk p b := by
  apply Finset.card_lt_card
  refine ⟨fun x hx => ?_, fun hs => ?_⟩
  · simp only [Finset.mem_filter] at hx ⊢
    exact ⟨hx.1, hx.2.1, by omega⟩
  · have := hs (Finset.mem_filter.mpr ⟨Finset.mem_univ h, h0, hb⟩)
    simp only [Finset.mem_filter] at this
    omega

/-- Nothing that is not zero is at most zero. -/
theorem rk_zero (p : Fin 512 → ℕ) : rk p 0 = 0 := by
  apply Finset.card_eq_zero.mpr
  apply Finset.filter_eq_empty_iff.mpr
  intro x _ hx
  omega

/-- All labels are at most 26. -/
theorem rk_top (p : Fin 512 → ℕ) (hp : ∀ h, p h ≤ 26) : rk p 26 = num p := by
  unfold rk num
  congr 1
  apply Finset.filter_congr
  intro x _
  exact ⟨fun h => h.1, fun h => ⟨h, hp x⟩⟩

/-- What is sorted: the labels that are not zero, and infinity in place of the others. -/
def entry (p : Fin 512 → ℕ) (h : Fin 512) : EReal := if p h ≠ 0 then nat (p h) else ⊤

/-- Of a downward closed set of places, a place lies in it when its number is below the set's size. -/
theorem mem_iff_lt_card (T : Finset (Fin 512)) (hT : ∀ a b, a ≤ b → b ∈ T → a ∈ T) (r : Fin 512) :
    r ∈ T ↔ r.val < T.card := by
  constructor
  · intro h
    have : Finset.Iic r ⊆ T := fun x hx => hT x r (Finset.mem_Iic.mp hx) h
    have := Finset.card_le_card this
    rw [Fin.card_Iic] at this
    omega
  · intro h
    by_contra hr
    have : T ⊆ Finset.Iio r := fun x hx => by
      rw [Finset.mem_Iio]
      by_contra hx'
      exact hr (hT r x (not_lt.mp hx') hx)
    have := Finset.card_le_card this
    rw [Fin.card_Iio] at this
    omega

/-- A sorted column: its entries in an order in which they ascend. -/
def Sorted (p : Fin 512 → ℕ) (s : Fin 512 → EReal) : Prop :=
  Monotone s ∧ ∃ σ : Fin 512 → Fin 512, Function.Bijective σ ∧ ∀ r, s r = entry p (σ r)

theorem entry_le (p : Fin 512 → ℕ) (h : Fin 512) (v : ℕ) : entry p h ≤ nat v ↔ (p h ≠ 0 ∧ p h ≤ v) := by
  unfold entry
  split
  · rename_i h0
    rw [nat_le_nat]
    exact ⟨fun h => ⟨h0, h⟩, fun h => h.2⟩
  · rename_i h0
    constructor
    · intro h
      exact absurd h (not_le.mpr (EReal.coe_lt_top _))
    · intro h
      exact absurd h.1 h0

/-- In a sorted column the entries at most `v` are the first ones, as many as there are such. -/
theorem sorted_le (p : Fin 512 → ℕ) (s : Fin 512 → EReal) (hs : Sorted p s) (r : Fin 512) (v : ℕ) :
    s r ≤ nat v ↔ r.val < rk p v := by
  classical
  obtain ⟨hm, σ, hσ, he⟩ := hs
  have hcard : (Finset.univ.filter fun r => s r ≤ nat v).card = rk p v := by
    unfold rk
    refine Finset.card_bij (fun r _ => σ r) ?_ ?_ ?_
    · intro a ha
      simp only [Finset.mem_filter, Finset.mem_univ, true_and] at ha ⊢
      rw [he] at ha
      exact (entry_le p _ v).mp ha
    · intro a _ b _ hab
      exact hσ.1 hab
    · intro b hb
      simp only [Finset.mem_filter, Finset.mem_univ, true_and] at hb
      obtain ⟨a, rfl⟩ := hσ.2 b
      refine ⟨a, ?_, rfl⟩
      simp only [Finset.mem_filter, Finset.mem_univ, true_and]
      rw [he]
      exact (entry_le p _ v).mpr hb
  rw [← hcard, ← mem_iff_lt_card]
  · rw [Finset.mem_filter]
    exact ⟨fun h => ⟨Finset.mem_univ _, h⟩, And.right⟩
  · intro a b hab hb
    simp only [Finset.mem_filter, Finset.mem_univ, true_and] at hb ⊢
    exact (hm hab).trans hb

/-- An entry among the first ones is a label of the column. -/
theorem sorted_fin (p : Fin 512 → ℕ) (hp : ∀ h, p h ≤ 26) (s : Fin 512 → EReal) (hs : Sorted p s) (r : Fin 512)
    (hr : r.val < num p) : ∃ v, s r = nat v := by
  have h := (sorted_le p s hs r 26).mpr (by rw [rk_top p hp]; exact hr)
  obtain ⟨_, σ, _, he⟩ := hs
  rw [he, entry_le] at h
  exact ⟨p (σ r), by rw [he, entry, if_pos h.1]⟩

/-- The entry whose place lies in the step of the counts at `v` is `v`. -/
theorem sorted_eq (p : Fin 512 → ℕ) (hp : ∀ h, p h ≤ 26) (s : Fin 512 → EReal) (hs : Sorted p s) (r : Fin 512) (v : ℕ)
    (hr : r.val < num p) (hv : r.val < rk p v) (hlt : ∀ w, w < v → rk p w ≤ r.val) : s r = nat v := by
  obtain ⟨u, hu⟩ := sorted_fin p hp s hs r hr
  have h1 : u ≤ v := by
    have := (sorted_le p s hs r v).mpr hv
    rwa [hu, nat_le_nat] at this
  rcases Nat.lt_or_ge u v with h | h
  · have h2 := (sorted_le p s hs r u).mp (by rw [hu])
    have := hlt u h
    omega
  · rw [hu, Nat.le_antisymm h1 h]

/-! ## The mean of the middle entries -/

/-- The middle places of `n` entries: one when `n` is odd, two when it is even. -/
def Mid (n : ℕ) (r : Fin 512) : Prop := 2 * r.val ≤ n ∧ n ≤ 2 * r.val + 2

instance (n : ℕ) (r : Fin 512) : Decidable (Mid n r) := inferInstanceAs (Decidable (_ ∧ _))

/-- The mean of the middle entries, zero when there is none. -/
def medianOf (s : Fin 512 → EReal) (n : ℕ) : EReal :=
  if 0 < n then Ideal.div (∑ r, if Mid n r then s r else 0) (∑ r, if Mid n r then (1 : EReal) else 0) else 0

/-- Of an odd number of entries the middle one counts alone. -/
theorem sum_odd (f : Fin 512 → EReal) (n : ℕ) (j : Fin 512) (hj : n = 2 * j.val + 1) :
    (∑ r, if Mid n r then f r else 0) = f j := by
  rw [Finset.sum_eq_single j]
  · rw [if_pos]
    exact ⟨by omega, by omega⟩
  · intro b _ hb
    rw [if_neg]
    rintro ⟨h1, h2⟩
    exact hb (Fin.ext (by omega))
  · intro h
    exact absurd (Finset.mem_univ j) h

/-- Of an even number of entries the middle two count. -/
theorem sum_even (f : Fin 512 → EReal) (n : ℕ) (j j' : Fin 512) (hj : n = 2 * j.val + 2) (hj' : j'.val = j.val + 1) :
    (∑ r, if Mid n r then f r else 0) = f j + f j' := by
  have hne : j ≠ j' := fun h => by
    rw [h] at hj'
    omega
  rw [Fintype.sum_eq_add j j' hne]
  · rw [if_pos, if_pos]
    · exact ⟨by omega, by omega⟩
    · exact ⟨by omega, by omega⟩
  · rintro b ⟨hb, hb'⟩
    rw [if_neg]
    rintro ⟨h1, h2⟩
    have h3 : b.val ≠ j.val := fun h => hb (Fin.ext h)
    have h4 : b.val ≠ j'.val := fun h => hb' (Fin.ext h)
    omega

theorem div_one' (x : EReal) : Ideal.div x 1 = x := by
  unfold Ideal.div
  rw [if_neg one_ne_zero, inv_one, mul_one]

theorem div_two (a b : ℕ) : Ideal.div (nat a + nat b) (1 + 1) = ((((a : ℝ) + b) / 2 : ℝ) : EReal) := by
  have e : (1 + 1 : EReal) = ((2 : ℝ) : EReal) := by norm_cast
  unfold Ideal.div
  rw [e, if_neg (by norm_cast), ← EReal.coe_inv, ← EReal.coe_add, ← EReal.coe_mul, div_eq_mul_inv]

/-- A label equals the median exactly when it is the lower middle value and the upper middle value is the same:
    otherwise the median lies strictly between two values that follow each other in the column. -/
theorem eq_median (p : Fin 512 → ℕ) (hp : ∀ h, p h ≤ 26) (s : Fin 512 → EReal) (hs : Sorted p s) (hn : 0 < num p)
    (L : ℕ) (hL : (num p + 1) / 2 ≤ rk p L) (hlt : ∀ w, w < L → rk p w < (num p + 1) / 2)
    (hL1 : 1 ≤ L) (h : Fin 512) :
    nat (p h) = medianOf s (num p) ↔ (num p / 2 + 1 ≤ rk p L ∧ p h = L) := by
  have hn512 : num p ≤ 512 := by
    have := Finset.card_le_univ (Finset.univ.filter fun h => p h ≠ 0)
    simpa [num] using this
  unfold medianOf
  rw [if_pos hn]
  rcases Nat.even_or_odd' (num p) with ⟨i, hi | hi⟩
  · have hj : num p = 2 * (⟨i - 1, by omega⟩ : Fin 512).val + 2 := by
      show num p = 2 * (i - 1) + 2
      omega
    have hj' : (⟨i, by omega⟩ : Fin 512).val = (⟨i - 1, by omega⟩ : Fin 512).val + 1 := by
      show i = i - 1 + 1
      omega
    rw [sum_even s (num p) _ _ hj hj', sum_even (fun _ => 1) (num p) _ _ hj hj']
    have hlo : s ⟨i - 1, by omega⟩ = nat L := by
      refine sorted_eq p hp s hs _ L (by show i - 1 < num p; omega) (by show i - 1 < _; omega) fun w hw => ?_
      have := hlt w hw
      show _ ≤ i - 1
      omega
    obtain ⟨U, hU⟩ := sorted_fin p hp s hs ⟨i, by omega⟩ (by show i < num p; omega)
    have hUle : ∀ v, U ≤ v ↔ i < rk p v := fun v => by
      have := sorted_le p s hs ⟨i, by omega⟩ v
      rwa [hU, nat_le_nat] at this
    have hLU : L ≤ U := by
      have := hs.1 (show (⟨i - 1, by omega⟩ : Fin 512) ≤ ⟨i, by omega⟩ from Nat.sub_le i 1)
      rwa [hlo, hU, nat_le_nat] at this
    rw [hlo, hU, div_two]
    have hcast : nat (p h) = ((((L : ℝ) + U) / 2 : ℝ) : EReal) ↔ 2 * p h = L + U := by
      rw [EReal.coe_eq_coe_iff, eq_div_iff (two_ne_zero)]
      constructor
      · intro e
        have : ((p h * 2 : ℕ) : ℝ) = ((L + U : ℕ) : ℝ) := by push_cast; exact e
        have := Nat.cast_injective this
        omega
      · intro e
        have : ((2 * p h : ℕ) : ℝ) = ((L + U : ℕ) : ℝ) := by rw [e]
        push_cast at this
        linarith
    rw [hcast]
    have hsame := hUle L
    constructor
    · intro e
      rcases Nat.lt_or_ge L U with hlt' | hge
      · exfalso
        have h1 : rk p L < rk p (p h) := rk_lt p h (by omega) (by omega) le_rfl
        have h2 : ¬ i < rk p (p h) := fun h3 => by
          have := (hUle _).mpr h3
          omega
        omega
      · have := hsame.mp hge
        omega
    · rintro ⟨h1, h2⟩
      have := hsame.mpr (by omega)
      omega
  · have hj : num p = 2 * (⟨i, by omega⟩ : Fin 512).val + 1 := hi
    rw [sum_odd s (num p) _ hj, sum_odd (fun _ => 1) (num p) _ hj, div_one']
    have hlo : s ⟨i, by omega⟩ = nat L := by
      refine sorted_eq p hp s hs _ L (by show i < num p; omega) (by show i < _; omega) fun w hw => ?_
      have := hlt w hw
      show _ ≤ i
      omega
    rw [hlo, nat_inj]
    constructor
    · intro e
      exact ⟨by omega, e⟩
    · intro e
      exact e.2

end Cert.KernelIdeal.Loss

end
-- ==== Proof.Refread.lean ====
/- The reference's arrays read at a place: the labels masked, the counts of a column, its entries sorted, its median,
   and the number of masked labels off the median. -/
module

public import proofs.«01_k».proof.Proof.Gen.ReferenceIdeal.Run
public import Idealize.ShloMosaic.Lib.SortFacts
public import Idealize.ShloMosaic.Lib.Pointwise
public import proofs.«01_k».proof.Proof.Order

@[expose] public section

set_option maxRecDepth 16384

noncomputable section

namespace Cert.ReferenceIdeal.Loss

open Idealize.ShloMosaic Cert.ReferenceIdeal Cert.ReferenceIdeal.Gen Idealize.ShloMosaic.TcCoe Idealize.SL.Sem

/-- A volume of one number per place. -/
abbrev Volume := FVec Ideal S16x512x512 .f32

/-- The rounded predictions. -/
def labels (A : FVec Ideal S16x1x512x512 .f32) : Volume :=
  shapeCast S16x512x512 (Host.roundeven A) shapeCasts_S16x1x512x512_S16x512x512

/-- The mask as numbers. -/
def maskf (B : IVec S16x512x512 32) : Volume := sitofp .f32 B

/-- Zero everywhere. -/
def zeros : Volume := broadcastInDim S16x512x512 ![] bcast_S_S16x512x512 (constant S_ .f32 0x00000000#32)

/-- One everywhere. -/
def ones : Volume := broadcastInDim S16x512x512 ![] bcast_S_S16x512x512 (constant S_ .f32 0x3F800000#32)

/-- Where a volume is not zero. -/
def nonzero (P : Volume) : IVec S16x512x512 1 := cmpf .une P zeros

/-- The sums down the columns. -/
def columns (P : Volume) : FVec Ideal S16x512 .f32 :=
  Host.reduceAdd P (constant S_ .f32 0x00000000#32) reducesTo_S16x512x512_S16x512_d1 h_S_

/-- A number per column, as a volume one row high. -/
def lift (Q : FVec Ideal S16x512 .f32) : FVec Ideal S16x1x512 .f32 :=
  broadcastInDim S16x1x512 ![0, 2] bcast_S16x512_S16x1x512_0_2 Q

/-- A number per column, in all its places. -/
def spread (Q : FVec Ideal S16x1x512 .f32) : Volume :=
  broadcastInDim S16x512x512 ![0, 1, 2] bcast_S16x1x512_S16x512x512_0_1_2 Q

/-- How many places of each column are not zero. -/
def counts (P : Volume) : FVec Ideal S16x1x512 .f32 := lift (columns (Host.absf (Host.sign P)))

/-- Which rows are in the middle of a sorted column. -/
def middle (P : Volume) : IVec S16x512x512 1 :=
  cmpf .ole (Host.absf (subf (addf (mulf (broadcastInDim S16x512x512 ![] bcast_S_S16x512x512
    (constant S_ .f32 0x40000000#32)) (sitofp .f32 (iotaInDim S16x512x512 32 1))) ones) (spread (counts P)))) ones

/-- What is sorted: the labels that are not zero, infinity in place of the others. -/
def entries (P : Volume) : Volume :=
  select (nonzero P) P (broadcastInDim S16x512x512 ![] bcast_S_S16x512x512 (id (constant S_ .f32 0x7F800000#32)))

/-- The entries sorted down the columns. -/
def sorted (P : Volume) : Volume := Host.sort S16x512x512 1 comparator_f32_d1 (entries P)

/-- The columns' medians. -/
def medians (P : Volume) : FVec Ideal S16x1x512 .f32 :=
  select (cmpf .ogt (counts P) (broadcastInDim S16x1x512 ![] bcast_S_S16x1x512 (constant S_ .f32 0x00000000#32)))
    (Host.divf (lift (columns (select (middle P) (sorted P)
        (broadcastInDim S16x512x512 ![] bcast_S_S16x512x512 (id (constant S_ .f32 0x00000000#32))))))
      (lift (columns (uitofp .f32 (middle P)))))
    (broadcastInDim S16x1x512 ![] bcast_S_S16x1x512 (id (constant S_ .f32 0x00000000#32)))

/-- The number of masked labels that are not their column's median. -/
def unequal (P M : Volume) : FVec Ideal S_ .f32 :=
  Host.reduceAdd (uitofp .f32 (nonzero (mulf (subf P (spread (medians (mulf P M)))) M)))
    (constant S_ .f32 0x00000000#32) reducesTo_S16x512x512_S_d0_1_2 h_S_

/-- The reference's result, of the count its loop leaves and of the labels and the mask. -/
theorem out_eq (V : Valuation τ sig (Elt Ideal)) :
    Value.out_main_v50 V = shapeCast S1x1 (addf (mulf (Host.divf (V (Proc.devRef .tc main_v5_6))
        (constant S_ .f32 0x4A800000#32)) (constant S_ .f32 0x41A00000#32))
      (Host.divf (unequal (labels (V (Proc.devRef .tc main_arg1))) (maskf (V (Proc.devRef .tc main_arg2))))
        (constant S_ .f32 0x4A800000#32))) shapeCasts_S_S1x1 := rfl

theorem labels_apply (A : FVec Ideal S16x1x512x512 .f32) (t : Fin 16) (h w : Fin 512) :
    labels A (ix3 t h w) = Ideal.liftRound Ideal.roundHalfEven (A (ix4 t 0 h w)) := by
  pointwise [labels]

theorem maskf_apply (B : IVec S16x512x512 32) (y : S16x512x512.Idx) : maskf B y = (((B y).toInt : ℝ) : EReal) := rfl

theorem zeros_apply (y : S16x512x512.Idx) : zeros y = 0 := by
  pointwise [zeros]

theorem columns_apply (P : Volume) (t : Fin 16) (w : Fin 512) :
    columns P (ix2 t w) = ∑ h, P (ix3 t h w) := by
  pointwise [columns]

theorem lift_apply (Q : FVec Ideal S16x512 .f32) (t : Fin 16) (w : Fin 512) : lift Q (ix3 t 0 w) = Q (ix2 t w) := by
  pointwise [lift]

theorem spread_apply (Q : FVec Ideal S16x1x512 .f32) (t : Fin 16) (h w : Fin 512) :
    spread Q (ix3 t h w) = Q (ix3 t 0 w) := by
  pointwise [spread]

theorem nonzero_apply (P : Volume) (y : S16x512x512.Idx) : nonzero P y = BitVec.ofBool (decide (P y ≠ 0)) := by
  show Ideal.cmp .une (P y) (zeros y) = _
  rw [zeros_apply]
  rfl

/-- A truth value as a number. -/
theorem bit_nat (q : Prop) [Decidable q] :
    (((BitVec.ofBool (decide q)).toNat : ℝ) : EReal) = if q then 1 else 0 := by
  by_cases h : q <;> simp [h]

theorem indicator_apply (P : Volume) (y : S16x512x512.Idx) :
    (uitofp .f32 (nonzero P) : Volume) y = if P y ≠ 0 then 1 else 0 := by
  show (((nonzero P y).toNat : ℝ) : EReal) = _
  rw [nonzero_apply, bit_nat]

/-- The size of a number's sign tells whether it is not zero. -/
theorem abs_sign (x : EReal) : max (Ideal.sign x) (-Ideal.sign x) = if x ≠ 0 then 1 else 0 := by
  have hle : (-1 : EReal) ≤ 1 := by
    have : ((-1 : ℝ) : EReal) ≤ ((1 : ℝ) : EReal) := EReal.coe_le_coe_iff.mpr (by norm_num)
    rwa [EReal.coe_neg, EReal.coe_one] at this
  induction x with
  | bot => simp [hle]
  | top => simp [hle]
  | coe r =>
    rw [Ideal.sign_coe]
    rcases lt_trichotomy r 0 with h | h | h
    · rw [sign_neg h, if_pos (by exact_mod_cast h.ne)]
      simp [hle]
    · subst h
      simp
    · rw [sign_pos h, if_pos (by exact_mod_cast h.ne')]
      simp [hle]

theorem counts_apply (P : Volume) (t : Fin 16) (w : Fin 512) :
    counts P (ix3 t 0 w) = ∑ h, if P (ix3 t h w) ≠ 0 then (1 : EReal) else 0 := by
  rw [counts, lift_apply, columns_apply]
  exact Finset.sum_congr rfl fun h _ => abs_sign (P _)

theorem unequal_apply (P M : Volume) (y : S_.Idx) :
    unequal P M y = ∑ t : Fin 16, ∑ h : Fin 512, ∑ w : Fin 512,
      if (P (ix3 t h w) - medians (mulf P M) (ix3 t 0 w)) * M (ix3 t h w) ≠ 0 then (1 : EReal) else 0 := by
  have e : unequal P M y = ∑ t : Fin 16, ∑ h : Fin 512, ∑ w : Fin 512,
      (uitofp .f32 (nonzero (mulf (subf P (spread (medians (mulf P M)))) M)) : Volume) (ix3 t h w) := by
    obtain rfl : y = ix0 := funext fun k => k.elim0
    unfold unequal
    generalize (uitofp .f32 (nonzero (mulf (subf P (spread (medians (mulf P M)))) M)) : Volume) = Z
    pointwise []
  rw [e]
  refine Finset.sum_congr rfl fun t _ => Finset.sum_congr rfl fun h _ => Finset.sum_congr rfl fun w _ => ?_
  rw [indicator_apply]
  show (if (P (ix3 t h w) - spread (medians (mulf P M)) (ix3 t h w)) * M (ix3 t h w) ≠ 0 then (1 : EReal) else 0) = _
  rw [spread_apply]

end Cert.ReferenceIdeal.Loss

end
-- ==== Proof.Refmedian.lean ====
/- The reference's median of a column: its entries come out sorted, its middle rows are those of the median, and so
   is the mean of what stands in them. -/
module

public import proofs.«01_k».proof.Proof.Refread

@[expose] public section

set_option maxRecDepth 16384

noncomputable section

namespace Cert.ReferenceIdeal.Loss

open Idealize.ShloMosaic Cert.ReferenceIdeal Cert.ReferenceIdeal.Gen Cert.KernelIdeal.Loss

theorem zero_f32 : Ideal.ofBits .f32 0x00000000#32 = 0 := by
  simp [Ideal.ofBits, Ideal.ieee, -EReal.coe_mul]

theorem one_f32 : Ideal.ofBits .f32 0x3F800000#32 = 1 := by
  simp [Ideal.ofBits, Ideal.ieee, -EReal.coe_mul]
  norm_num

theorem two_f32 : Ideal.ofBits .f32 0x40000000#32 = ((2 : ℝ) : EReal) := by
  simp [Ideal.ofBits, Ideal.ieee, -EReal.coe_mul]
  norm_num

theorem inf_f32 : Ideal.ofBits .f32 0x7F800000#32 = ⊤ := by
  simp [Ideal.ofBits, Ideal.ieee, -EReal.coe_mul]

/-- A choice by a truth value. -/
theorem select_dec (q : Prop) [Decidable q] (x y : EReal) :
    Scalar.select (BitVec.ofBool (decide q)) x y = if q then x else y := by
  by_cases h : q <;> simp [h, Scalar.select]

/-- The sort's comparison is the order of the numbers. -/
theorem before_eq (l r : EReal) :
    (comparator_f32_d1 (F := Ideal) l r == 1#1) = decide (l < r) := by
  have e0 : ∀ x : EReal, Scalar.select (Ideal.cmp .oeq x (Ideal.ofBits .f32 0x00000000#32)) (Ideal.ofBits .f32 0x00000000#32) x = x := by
    intro x
    rw [zero_f32]
    show Scalar.select (BitVec.ofBool (decide (x = 0))) 0 x = x
    rw [select_dec]
    split
    · rename_i h
      exact h.symm
    · rfl
  have e1 : ∀ x y z : EReal, Scalar.select (Ideal.cmp .une x x) y z = z := by
    intro x y z
    show Scalar.select (BitVec.ofBool (decide (x ≠ x))) y z = z
    rw [select_dec, if_neg (not_not.mpr rfl)]
  have e : comparator_f32_d1 (F := Ideal) l r = BitVec.ofBool (decide (l < r)) := by
    show Ideal.cmp .olt (Scalar.select (Ideal.cmp .une l l) _ (Scalar.select (Ideal.cmp .oeq l _) _ l))
      (Scalar.select (Ideal.cmp .une r r) _ (Scalar.select (Ideal.cmp .oeq r _) _ r)) = _
    rw [e1, e1]
    show Ideal.cmp .olt (Scalar.select (Ideal.cmp .oeq l (Ideal.ofBits .f32 0x00000000#32)) (Ideal.ofBits .f32 0x00000000#32) l)
      (Scalar.select (Ideal.cmp .oeq r (Ideal.ofBits .f32 0x00000000#32)) (Ideal.ofBits .f32 0x00000000#32) r) = _
    rw [e0, e0]
    rfl
  rw [e]
  by_cases h : l < r <;> simp [h]

/-- A stable sort by the order of the numbers makes them ascend. -/
theorem sort_monotone (x : Fin 512 → EReal) :
    Monotone fun r => x (sortedFrom (fun k k' => decide (x k < x k')) r) := by
  intro a b hab
  rcases eq_or_lt_of_le hab with rfl | hlt
  · exact le_rfl
  · have := sortedFrom_noInversion (fun k k' => decide (x k < x k')) (fun k k' => decide (x k < x k'))
      (fun a b h => by simp only [decide_eq_true_eq, decide_eq_false_iff_not, not_lt] at h ⊢; exact h.le)
      (fun a b h => h)
      (fun a b c h1 h2 => by simp only [decide_eq_false_iff_not, not_lt] at h1 h2 ⊢; exact h2.trans h1)
      a b hlt
    simpa using this

theorem sorted_apply (P : Volume) (t : Fin 16) (r w : Fin 512) :
    sorted P (ix3 t r w) = entries P (ix3 t (sortedFrom (fun k k' =>
      decide (entries P (ix3 t k w) < entries P (ix3 t k' w))) r) w) := by
  have ha : ∀ k : Fin 512, (ix3 t r w : S16x512x512.Idx).along (1 : Fin 3) k = ix3 t k w := by
    intro k
    funext i
    fin_cases i <;> rfl
  have hs : sorted P (ix3 t r w) = entries P ((ix3 t r w : S16x512x512.Idx).along (1 : Fin 3)
      (sortedFrom (n := 512) (fun k k' => comparator_f32_d1 (F := Ideal) (entries P ((ix3 t r w : S16x512x512.Idx).along (1 : Fin 3) k))
        (entries P ((ix3 t r w : S16x512x512.Idx).along (1 : Fin 3) k')) == 1#1) r)) := rfl
  rw [hs, ha]
  simp only [ha, before_eq]

variable (P : Volume) (t : Fin 16) (w : Fin 512) (p : Fin 512 → ℕ) (hP : ∀ h, P (ix3 t h w) = nat (p h))

include hP

theorem counts_nat : counts P (ix3 t 0 w) = nat (num p) := by
  rw [counts_apply]
  unfold num
  rw [← sum_ind]
  refine Finset.sum_congr rfl fun h _ => ?_
  rw [hP, ← nat_zero]
  exact if_congr (not_congr (nat_inj _ _)) rfl rfl

theorem entries_apply (h : Fin 512) : entries P (ix3 t h w) = entry p h := by
  show Scalar.select (nonzero P (ix3 t h w)) (P (ix3 t h w)) (Ideal.ofBits .f32 0x7F800000#32) = _
  rw [nonzero_apply, select_dec, hP, inf_f32, entry, ← nat_zero]
  exact if_congr (not_congr (nat_inj _ _)) rfl rfl

/-- The column comes out sorted. -/
theorem sorted_sorted : Sorted p fun r => sorted P (ix3 t r w) := by
  refine ⟨?_, sortedFrom (fun k k' => decide (entry p k < entry p k')), ⟨sortedFrom_injective _, sortedFrom_surjective _⟩,
    fun r => ?_⟩
  · simp only [sorted_apply, entries_apply P t w p hP]
    exact sort_monotone (entry p)
  · simp only [sorted_apply, entries_apply P t w p hP]

/-- The middle rows are the median's. -/
theorem middle_apply (r : Fin 512) : middle P (ix3 t r w) = BitVec.ofBool (decide (Mid (num p) r)) := by
  have e : middle P (ix3 t r w) = Ideal.cmp .ole
      (max (((2 : ℝ) : EReal) * nat r.val + 1 - nat (num p)) (-(((2 : ℝ) : EReal) * nat r.val + 1 - nat (num p)))) 1 := by
    rw [← counts_nat P t w p hP, ← one_f32, ← two_f32, ← spread_apply (counts P) t r w]
    have hr : nat r.val = (sitofp .f32 (iotaInDim S16x512x512 32 1) : Volume) (ix3 t r w) := by
      show _ = (((BitVec.ofNat 32 r.val).toInt : ℝ) : EReal)
      have hi : (BitVec.ofNat 32 r.val).toInt = (r.val : ℤ) := by
        have := r.isLt
        rw [BitVec.toInt_eq_toNat_cond, BitVec.toNat_ofNat, Nat.mod_eq_of_lt (by omega), if_pos (by omega)]
      rw [hi, Int.cast_natCast]
    rw [hr]
    rfl
  rw [e]
  show BitVec.ofBool (decide _) = _
  congr 1
  rw [decide_eq_decide]
  have e2 : (((2 : ℝ) : EReal) * nat r.val + 1 - nat (num p)) = ((((2 * r.val + 1 - num p : ℤ)) : ℝ) : EReal) := by
    push_cast
    norm_cast
  rw [e2, ← EReal.coe_neg, max_le_iff, ← EReal.coe_one, EReal.coe_le_coe_iff, EReal.coe_le_coe_iff]
  unfold Mid
  constructor
  · rintro ⟨h1, h2⟩
    have h1' : (2 * r.val + 1 - num p : ℤ) ≤ 1 := by exact_mod_cast h1
    have h2' : -(2 * r.val + 1 - num p : ℤ) ≤ 1 := by exact_mod_cast h2
    omega
  · rintro ⟨h1, h2⟩
    have h1' : (2 * r.val + 1 - num p : ℤ) ≤ 1 := by omega
    have h2' : -(2 * r.val + 1 - num p : ℤ) ≤ 1 := by omega
    exact ⟨by exact_mod_cast h1', by exact_mod_cast h2'⟩

/-- The reference's median of a column. -/
theorem medians_apply : medians P (ix3 t 0 w) = medianOf (fun r => sorted P (ix3 t r w)) (num p) := by
  have e : medians P (ix3 t 0 w) = Scalar.select (Ideal.cmp .ogt (counts P (ix3 t 0 w)) (Ideal.ofBits .f32 0x00000000#32))
      (Ideal.div (lift (columns (select (middle P) (sorted P)
        (broadcastInDim S16x512x512 ![] bcast_S_S16x512x512 (id (constant S_ .f32 0x00000000#32))))) (ix3 t 0 w))
        (lift (columns (uitofp .f32 (middle P))) (ix3 t 0 w))) (Ideal.ofBits .f32 0x00000000#32) := rfl
  rw [e, lift_apply, lift_apply, columns_apply, columns_apply, counts_nat P t w p hP, zero_f32]
  have e1 : ∀ r, (select (middle P) (sorted P)
      (broadcastInDim S16x512x512 ![] bcast_S_S16x512x512 (id (constant S_ .f32 0x00000000#32))) : Volume) (ix3 t r w)
      = if Mid (num p) r then sorted P (ix3 t r w) else 0 := fun r => by
    show Scalar.select (middle P (ix3 t r w)) (sorted P (ix3 t r w)) (Ideal.ofBits .f32 0x00000000#32) = _
    rw [middle_apply P t w p hP, select_dec, zero_f32]
  have e2 : ∀ r, (uitofp .f32 (middle P) : Volume) (ix3 t r w) = if Mid (num p) r then (1 : EReal) else 0 := fun r => by
    show (((middle P (ix3 t r w)).toNat : ℝ) : EReal) = _
    rw [middle_apply P t w p hP, bit_nat]
  rw [Finset.sum_congr rfl fun r _ => e1 r, Finset.sum_congr rfl fun r _ => e2 r]
  show Scalar.select (BitVec.ofBool (decide (0 < nat (num p)))) _ _ = _
  rw [select_dec, medianOf, ← nat_zero]
  exact if_congr (nat_lt_nat _ _) rfl rfl

end Cert.ReferenceIdeal.Loss

end
-- ==== Proof.Column.lean ====
/- One column of labels: the halving finds the lower middle value, and the column's contribution is the number of
   its masked labels that are not the median. -/
module

public import proofs.«01_k».proof.Proof.Order

@[expose] public section

noncomputable section

namespace Cert.KernelIdeal.Loss

open Idealize.ShloMosaic

variable (p : Fin 512 → ℕ)

theorem count_nat : countOf (fun h => nat (p h)) = nat (num p) := by
  unfold countOf num
  rw [← sum_ind]
  exact Finset.sum_congr rfl fun h _ => min_nat (p h)

/-- The labels that are zero and those that are not are all labels. -/
theorem num_add : num p + (Finset.univ.filter fun h => p h = 0).card = 512 := by
  have := Finset.card_filter_add_card_filter_not (s := (Finset.univ : Finset (Fin 512))) (fun h => p h ≠ 0)
  simp only [not_not] at this
  unfold num
  rw [this]
  rfl

/-- The labels at most `v` are those that are zero and those that are not. -/
theorem le_card (v : ℕ) :
    (Finset.univ.filter fun h => p h ≤ v).card = (Finset.univ.filter fun h => p h = 0).card + rk p v := by
  have := Finset.card_filter_add_card_filter_not (s := (Finset.univ.filter fun h => p h ≤ v)) (fun h => p h = 0)
  rw [← this, Finset.filter_filter, Finset.filter_filter]
  unfold rk
  congr 2
  · apply Finset.filter_congr
    intro x _
    exact ⟨fun h => h.2, fun h => ⟨by omega, h⟩⟩
  · apply Finset.filter_congr
    intro x _
    exact and_comm

/-- The rank the halving computes. -/
theorem rank_nat (v : ℕ) : rankOf (fun h => nat (p h)) (nat v) = nat (rk p v) := by
  unfold rankOf
  have e : ∀ h, clip (nat v + 1 - nat (p h)) = if p h ≤ v then 1 else 0 := fun h => by
    rw [show (nat v + 1 - nat (p h) : EReal) = ((((v : ℤ) + 1 - p h : ℤ) : ℝ) : EReal) by push_cast; norm_cast,
      clip_int]
    exact if_congr (by omega) rfl rfl
  rw [Finset.sum_congr rfl fun h _ => e h, sum_ind, count_nat, le_card]
  have h1 := num_add p
  generalize (Finset.univ.filter fun h => p h = 0).card = z at h1 ⊢
  have h2 : (512 : ℝ) = (num p : ℝ) + z := by exact_mod_cast h1.symm
  rw [h2, nat, nat, nat, ← EReal.coe_sub, ← EReal.coe_sub]
  congr 1
  push_cast
  ring

theorem low_nat : lowOf (fun h => nat (p h)) = nat ((num p + 1) / 2) := by
  unfold lowOf
  rw [count_nat, ← nat_one, ← nat_add, round_half]

theorem high_nat : highOf (fun h => nat (p h)) = nat (num p / 2 + 1) := by
  unfold highOf
  rw [count_nat, round_half, nat_add, nat_one]

/-- One halving of an interval of labels. -/
def halve (I : ℕ × ℕ) : ℕ × ℕ :=
  if (num p + 1) / 2 ≤ rk p ((I.1 + I.2) / 2) then (I.1, (I.1 + I.2) / 2) else ((I.1 + I.2) / 2 + 1, I.2)

theorem halving_nat (I : ℕ × ℕ) :
    halvingOf (fun h => nat (p h)) (nat I.1, nat I.2) = (nat (halve p I).1, nat (halve p I).2) := by
  unfold halvingOf halve midOf
  rw [← nat_add, round_half, rank_nat, low_nat]
  by_cases h : (num p + 1) / 2 ≤ rk p ((I.1 + I.2) / 2)
  · rw [if_pos h, if_pos ((nat_le_nat _ _).mpr h)]
  · rw [if_neg h, if_neg (fun h' => h ((nat_le_nat _ _).mp h')), nat_add, nat_one]

/-- An interval no wider than `d` that holds the least label of rank at least `k`. -/
def Holds (k d : ℕ) (I : ℕ × ℕ) : Prop :=
  1 ≤ I.1 ∧ I.1 ≤ I.2 ∧ I.2 ≤ I.1 + d ∧ (∀ w, w < I.1 → rk p w < k) ∧ k ≤ rk p I.2

theorem holds_halve (d : ℕ) (I : ℕ × ℕ) (h : Holds p ((num p + 1) / 2) d I) :
    Holds p ((num p + 1) / 2) (d / 2) (halve p I) := by
  obtain ⟨h1, h2, h3, h4, h5⟩ := h
  unfold halve
  split
  · rename_i hk
    exact ⟨h1, by show I.1 ≤ (I.1 + I.2) / 2; omega, by show (I.1 + I.2) / 2 ≤ I.1 + d / 2; omega, h4, hk⟩
  · rename_i hk
    have hlt : I.1 ≤ I.2 ∧ I.1 ≠ I.2 := ⟨h2, fun e => hk (by
      rw [show (I.1 + I.2) / 2 = I.2 by omega]
      exact h5)⟩
    refine ⟨by show 1 ≤ (I.1 + I.2) / 2 + 1; omega, by show (I.1 + I.2) / 2 + 1 ≤ I.2; omega,
      by show I.2 ≤ (I.1 + I.2) / 2 + 1 + d / 2; omega, fun w hw => ?_, h5⟩
    have hw' : w ≤ (I.1 + I.2) / 2 := Nat.lt_succ_iff.mp hw
    exact lt_of_le_of_lt (rk_mono p hw') (not_le.mp hk)

/-- The left end after five halvings. -/
def lower : ℕ := (halve p (halve p (halve p (halve p (halve p (1, 26)))))).1

theorem lower_nat : lowerOf (fun h => nat (p h)) = nat (lower p) := by
  unfold lowerOf lower
  rw [show ((1 : EReal), ((26 : ℝ) : EReal)) = (nat (1, 26).1, nat (1, 26).2) by simp [nat],
    halving_nat, halving_nat, halving_nat, halving_nat, halving_nat]

/-- The left end is the least label of rank at least the lower middle's. -/
theorem lower_spec (hp : ∀ h, p h ≤ 26) (hn : 0 < num p) :
    1 ≤ lower p ∧ (num p + 1) / 2 ≤ rk p (lower p) ∧ ∀ w, w < lower p → rk p w < (num p + 1) / 2 := by
  have h0 : Holds p ((num p + 1) / 2) 25 (1, 26) := by
    refine ⟨le_rfl, by show 1 ≤ 26; omega, by show 26 ≤ 1 + 25; omega, fun w hw => ?_, ?_⟩
    · have : w = 0 := Nat.lt_one_iff.mp hw
      rw [this, rk_zero]
      omega
    · show _ ≤ rk p 26
      rw [rk_top p hp]
      omega
  have h5 := holds_halve p _ _ (holds_halve p _ _ (holds_halve p _ _ (holds_halve p _ _ (holds_halve p _ _ h0))))
  obtain ⟨a, b, c, d, e⟩ := h5
  have hc : (halve p (halve p (halve p (halve p (halve p (1, 26)))))).2 = lower p := by
    unfold lower
    omega
  exact ⟨a, hc ▸ e, d⟩

/-- What a column contributes: the number of its masked labels that are not the median of those not zero. -/
theorem column_nat (M : Fin 512 → ℕ) (hp : ∀ h, p h ≤ 26) (hM : ∀ h, M h = 0 ∨ M h = 1) (hz : ∀ h, M h = 0 → p h = 0)
    (s : Fin 512 → EReal) (hs : Sorted p s) :
    columnOf (fun h => nat (p h)) (fun h => nat (M h))
      = ∑ h, (if M h = 1 ∧ nat (p h) ≠ medianOf s (num p) then (1 : EReal) else 0) := by
  classical
  unfold columnOf
  rw [count_nat, lower_nat, rank_nat, high_nat, sum_ind, sum_nat, Finset.sum_congr rfl fun h _ => hit_nat (p h) (lower p),
    sum_ind, ← nat_zero]
  by_cases hn : 0 < num p
  · obtain ⟨hl1, hl2, hl3⟩ := lower_spec p hp hn
    rw [if_pos ((nat_lt_nat _ _).mpr hn)]
    have hmask : ∑ h, M h = (Finset.univ.filter fun h => M h = 1).card := by
      rw [Finset.card_filter]
      refine Finset.sum_congr rfl fun h _ => ?_
      rcases hM h with e | e <;> rw [e] <;> rfl
    have hsplit := Finset.card_filter_add_card_filter_not (s := (Finset.univ.filter fun h => M h = 1))
      (fun h => nat (p h) ≠ medianOf s (num p))
    rw [Finset.filter_filter, Finset.filter_filter] at hsplit
    have hmed := fun h => eq_median p hp s hs hn (lower p) hl2 hl3 hl1 h
    by_cases hsame : num p / 2 + 1 ≤ rk p (lower p)
    · rw [if_pos ((nat_le_nat _ _).mpr hsame), hmask]
      have heq : (Finset.univ.filter fun h => M h = 1 ∧ ¬ nat (p h) ≠ medianOf s (num p))
          = Finset.univ.filter fun h => p h = lower p := by
        apply Finset.filter_congr
        intro h _
        rw [not_not, hmed]
        refine ⟨fun e => e.2.2, fun e => ⟨?_, hsame, e⟩⟩
        rcases hM h with h0 | h1
        · have := hz h h0
          omega
        · exact h1
      rw [heq] at hsplit
      rw [← hsplit, nat_add, nat, nat, ← EReal.coe_add, ← EReal.coe_sub, add_sub_cancel_right]
    · rw [if_neg (fun h => hsame ((nat_le_nat _ _).mp h)), hmask, nat_zero, sub_zero]
      refine congrArg nat (congrArg Finset.card (Finset.filter_congr fun h _ => ?_))
      refine ⟨fun e => ⟨e, fun e' => hsame ((hmed h).mp e').1⟩, fun e => e.1⟩
  · have h0 : num p = 0 := by omega
    have hall : ∀ h, p h = 0 := fun h => by
      have := Finset.card_eq_zero.mp h0
      have := (Finset.filter_eq_empty_iff.mp this) (Finset.mem_univ h)
      exact not_not.mp this
    rw [if_neg (fun h => hn ((nat_lt_nat _ _).mp h))]
    congr 1
    symm
    apply Finset.card_eq_zero.mpr
    apply Finset.filter_eq_empty_iff.mpr
    rintro h _ ⟨_, h2⟩
    apply h2
    rw [hall h, h0, medianOf, if_neg (lt_irrefl 0), nat_zero]

end Cert.KernelIdeal.Loss

end
-- ==== Proof.Point.lean ====
/- What one grid point leaves in the two carried words and, at the last point, in the result. -/
module

public import proofs.«01_k».proof.Proof.Vertical
public import proofs.«01_k».proof.Proof.Gen.KernelIdeal.Value
public import Idealize.ShloMosaic.Lib.Pipeline.ReadBack
public import Idealize.ShloMosaic.Lib.Pipeline.ValueKit

@[expose] public section

set_option maxRecDepth 16384

noncomputable section

namespace Cert.KernelIdeal.Loss

open Idealize.ShloMosaic Cert.KernelIdeal.Gen Idealize.ShloMosaic.TcCoe Idealize.SL.Sem

/-- What a plane adds to each of the two words: its descending count to the first, its vertical count to the second. -/
def addOf (x0 : FVec Ideal S1x512x512 .f32) (x1 : IVec S1x512x512 32) (y : S2.Idx) : EReal :=
  if (y 0).val = 0 then descOf x0 x1 else vertOf x0 x1

/-- The loss from the two words. -/
def lossOf (a b : EReal) : EReal :=
  Ideal.div (Ideal.ofBits .f32 0x41A00000#32 * a + b) (Ideal.ofBits .f32 0x4A800000#32)

/-- The first of the two words. -/
abbrev fst2 : S2.Idx := ix1 (0 : Fin 2)

/-- The second of the two words. -/
abbrev snd2 : S2.Idx := ix1 (1 : Fin 2)

/-- There are two words. -/
theorem two_cases (y : S2.Idx) : y = fst2 ∨ y = snd2 := by
  have h : ∀ k : Fin 2, k = 0 ∨ k = 1 := by decide
  rcases h (y 0) with h | h
  · left; funext a; fin_cases a; exact h
  · right; funext a; fin_cases a; exact h

/-- Two words written one after the other: the second reads back as written. -/
theorem canon_snd (h1 : ∀ a, (![1] : Fin 1 → ℕ) a + (![1] : Fin 1 → ℕ) a ≤ S2.size a)
    (a : EReal) (L : List (View.Piece (Elt Ideal) S2 .f32)) :
    View.canon ((⟨Rect.unit ![1] ![1] h1, fun _ => a⟩ : View.Piece (Elt Ideal) S2 .f32) :: L) snd2 = a := by
  have e : snd2 = (Rect.unit (s := S2) ![1] ![1] h1).emb (ix1 (0 : Fin 1)) := by
    funext k; refine Fin.ext ?_; fin_cases k; rfl
  rw [e]
  exact View.canon_cons_emb (Val := Elt Ideal) _ _ L _

/-- Two words written one after the other: the first reads back as written. -/
theorem canon_fst (h0 : ∀ a, (![0] : Fin 1 → ℕ) a + (![1] : Fin 1 → ℕ) a ≤ S2.size a)
    (h1 : ∀ a, (![1] : Fin 1 → ℕ) a + (![1] : Fin 1 → ℕ) a ≤ S2.size a)
    (a b : EReal) (L : List (View.Piece (Elt Ideal) S2 .f32)) :
    View.canon ((⟨Rect.unit ![1] ![1] h1, fun _ => a⟩ : View.Piece (Elt Ideal) S2 .f32)
      :: ⟨Rect.unit ![0] ![1] h0, fun _ => b⟩ :: L) fst2 = b := by
  refine (View.canon_cons_of_not_mem (Val := Elt Ideal) _ _ ?_).trans ?_
  · intro hm
    have := ((Rect.mem_set_unit (s := S2) (inb := h1)).mp hm 0).1
    exact absurd this (by decide)
  · have e : fst2 = (Rect.unit (s := S2) ![0] ![1] h0).emb (ix1 (0 : Fin 1)) := by
      funext k; refine Fin.ext ?_; fin_cases k; rfl
    rw [e]
    exact View.canon_cons_emb (Val := Elt Ideal) _ _ L _

/-- A word loaded from the carried pair. -/
theorem word_apply (x : Vec Ideal S2 .f32) (k : ℕ) (hk : k < 2)
    (h : ∀ a, (![k] : Fin 1 → ℕ) a + (![1] : Fin 1 → ℕ) a ≤ S2.size a) (z : (Rect.unit (s := S2) ![k] ![1] h).shape.Idx) :
    View.ld x (Rect.unit ![k] ![1] h) z = x (ix1 ⟨k, hk⟩) := by
  refine congrArg x ?_
  have hz : (z 0).val < 1 := (z 0).isLt
  funext a; refine Fin.ext ?_; fin_cases a
  simp [LoadRect.idx, ix1]

/-- A point between the first and the last adds its plane's counts to the two words. -/
theorem sout_B (c : Dev nD) (i : grid0.Coords) (arg1 : Memref sig .tc .vmem S1x512x512 .f32) (harg1 : arg1.IsWhole)
    (arg2 : Memref sig .tc .vmem S1x512x512 .i32) (harg2 : arg2.IsWhole) (arg3 : Memref sig .tc .smem S1x1 .f32)
    (harg3 : arg3.IsWhole) (arg4 : Memref sig .tc .smem S2 .f32) (harg4 : arg4.IsWhole)
    (hc0 : ¬cond0_0 i) (hc1 : ¬cond0_1 i) (x0 : Vec Ideal S1x512x512 .f32) (x1 : Vec Ideal S1x512x512 .i32)
    (xs0 : Vec Ideal S2 .f32) (y : S2.Idx) :
    sout0_B_0 c i arg1 harg1 arg2 harg2 arg3 harg3 arg4 harg4 hc0 hc1 x0 x1 xs0 y
      = xs0 y + addOf x0 x1 y := by
  frame_out
  rcases two_cases y with rfl | rfl
  · refine (canon_fst _ _ _ _ _).trans ?_
    rw [word_apply xs0 0 (by decide)]
    rfl
  · refine (canon_snd _ _ _).trans ?_
    rw [word_apply xs0 1 (by decide)]
    rfl

/-- The first point starts the two words from zero. -/
theorem sout_A (c : Dev nD) (i : grid0.Coords) (arg1 : Memref sig .tc .vmem S1x512x512 .f32) (harg1 : arg1.IsWhole)
    (arg2 : Memref sig .tc .vmem S1x512x512 .i32) (harg2 : arg2.IsWhole) (arg3 : Memref sig .tc .smem S1x1 .f32)
    (harg3 : arg3.IsWhole) (arg4 : Memref sig .tc .smem S2 .f32) (harg4 : arg4.IsWhole)
    (hc0 : cond0_0 i) (hc1 : ¬cond0_1 i) (x0 : Vec Ideal S1x512x512 .f32) (x1 : Vec Ideal S1x512x512 .i32)
    (y : S2.Idx) :
    sout0_A_0 c i arg1 harg1 arg2 harg2 arg3 harg3 arg4 harg4 hc0 hc1 x0 x1 y = addOf x0 x1 y := by
  frame_out
  have hz : (FloatOps.ofBits (F := Ideal) .f32 0x00000000#32 : EReal) = 0 := by pointwise []
  rcases two_cases y with rfl | rfl
  · refine (canon_fst _ _ _ _ _).trans ?_
    refine Eq.trans ?_ (zero_add (descOf x0 x1))
    exact congrArg (· + descOf x0 x1) hz
  · refine (canon_snd _ _ _).trans ?_
    refine Eq.trans ?_ (zero_add (vertOf x0 x1))
    exact congrArg (· + vertOf x0 x1) hz

/-- The last point adds its plane's counts too. -/
theorem sout_C (c : Dev nD) (i : grid0.Coords) (arg1 : Memref sig .tc .vmem S1x512x512 .f32) (harg1 : arg1.IsWhole)
    (arg2 : Memref sig .tc .vmem S1x512x512 .i32) (harg2 : arg2.IsWhole) (arg3 : Memref sig .tc .smem S1x1 .f32)
    (harg3 : arg3.IsWhole) (arg4 : Memref sig .tc .smem S2 .f32) (harg4 : arg4.IsWhole)
    (hc0 : ¬cond0_0 i) (hc1 : cond0_1 i) (x0 : Vec Ideal S1x512x512 .f32) (x1 : Vec Ideal S1x512x512 .i32)
    (xs0 : Vec Ideal S2 .f32) (y : S2.Idx) :
    sout0_C_0 c i arg1 harg1 arg2 harg2 arg3 harg3 arg4 harg4 hc0 hc1 x0 x1 xs0 y
      = xs0 y + addOf x0 x1 y := by
  frame_out
  rcases two_cases y with rfl | rfl
  · refine (canon_fst _ _ _ _ _).trans ?_
    rw [word_apply xs0 0 (by decide)]
    rfl
  · refine (canon_snd _ _ _).trans ?_
    rw [word_apply xs0 1 (by decide)]
    rfl

/-- The last point writes the loss of the two words into the result. -/
theorem out_C (c : Dev nD) (i : grid0.Coords) (arg1 : Memref sig .tc .vmem S1x512x512 .f32) (harg1 : arg1.IsWhole)
    (arg2 : Memref sig .tc .vmem S1x512x512 .i32) (harg2 : arg2.IsWhole) (arg3 : Memref sig .tc .smem S1x1 .f32)
    (harg3 : arg3.IsWhole) (arg4 : Memref sig .tc .smem S2 .f32) (harg4 : arg4.IsWhole)
    (hc0 : ¬cond0_0 i) (hc1 : cond0_1 i) (x0 : Vec Ideal S1x512x512 .f32) (x1 : Vec Ideal S1x512x512 .i32)
    (xs0 : Vec Ideal S2 .f32) (y : S1x1.Idx) :
    out0_C_2 c i arg1 harg1 arg2 harg2 arg3 harg3 arg4 harg4 hc0 hc1 x0 x1 xs0 y
      = lossOf (xs0 (ix1 0) + descOf x0 x1) (xs0 (ix1 1) + vertOf x0 x1) := by
  frame_out
  rw [word_apply xs0 0 (by decide), word_apply xs0 1 (by decide)]
  rfl

end Cert.KernelIdeal.Loss

end
-- ==== Proof.Words.lean ====
/- The kernel's result: after the sixteen grid points the two carried words hold the sums of the planes'
   counts, and the one result word holds the loss of the two. -/
module

public import proofs.«01_k».proof.Proof.Point

@[expose] public section

set_option maxRecDepth 16384

noncomputable section

namespace Cert.KernelIdeal.Loss

open Idealize.ShloMosaic Cert.KernelIdeal.Gen Idealize.ShloMosaic.TcCoe Idealize.SL.Sem
open Idealize.ShloMosaic.Pipeline (Dat)

variable (m : (ℓ : Loc nD τ sig) → Buf (Elt Ideal) ℓ)

/-- What grid point `k` adds to a word. -/
def termOf (c : Dev nD) (k : ℕ) (y : S2.Idx) : EReal :=
  if h : k < cfg0.N then addOf (iblk m c 0 ⟨k, h⟩) (iblk m c 1 ⟨k, h⟩) y else 0

/-- After grid point `n` each word is the sum of what the points up to `n` added. -/
theorem words_after (c : Dev nD) (n : ℕ) (hn : n < cfg0.N) (y : S2.Idx) :
    (outsAt0 m c n hn).2 y = ∑ k ∈ Finset.range (n + 1), termOf m c k y := by
  induction n with
  | zero =>
    rw [Finset.sum_range_one, termOf, dif_pos hn, outsAt0_A m c ⟨0, hn⟩ (Nat.zero_mod _) (by simp)]
    dsimp only
    rw [sout_A]
  | succ n ih =>
    have hN : n + 1 < 16 := lt_of_lt_of_eq hn N_0
    have h0 : ¬ (n + 1) % 16 = 0 := by omega
    rw [Finset.sum_range_succ, ← ih (Nat.lt_of_succ_lt hn), termOf, dif_pos hn]
    by_cases h1 : (n + 1) % 16 = 15
    · rw [outsAt0_C m c ⟨n + 1, hn⟩ h0 h1]
      dsimp only
      rw [sout_C]
      rfl
    · rw [outsAt0_B m c ⟨n + 1, hn⟩ h0 h1]
      dsimp only
      rw [sout_B]
      rfl

/-- The kernel's result: the loss of the planes' counts added up. -/
def resultOf (c : Dev nD) : EReal :=
  lossOf (∑ t : Fin cfg0.N, descOf (iblk m c 0 t) (iblk m c 1 t))
    (∑ t : Fin cfg0.N, vertOf (iblk m c 0 t) (iblk m c 1 t))

/-- The counts of all points added up are the last point's over what the points before left. -/
theorem word_total (c : Dev nD) (t : Fin cfg0.N) (ht : t.val % 16 = 15) (y : S2.Idx) :
    (outsAt0 m c (t.val - 1) (Nat.lt_of_le_of_lt (Nat.sub_le _ _) t.isLt)).2 y
      + addOf (iblk m c 0 t) (iblk m c 1 t) y = ∑ t : Fin cfg0.N, addOf (iblk m c 0 t) (iblk m c 1 t) y := by
  have hN : t.val < 16 := lt_of_lt_of_eq t.isLt N_0
  have h15 : t.val = 15 := by omega
  have hlast : addOf (iblk m c 0 t) (iblk m c 1 t) y = termOf m c 15 y := by
    have h : (15 : ℕ) < cfg0.N := h15 ▸ t.isLt
    have e : t = ⟨15, h⟩ := Fin.ext h15
    rw [termOf, dif_pos h, e]
  rw [words_after m c (t.val - 1) _ y, hlast, h15, ← Finset.sum_range_succ]
  have hs : ∀ k : Fin cfg0.N, addOf (iblk m c 0 k) (iblk m c 1 k) y = termOf m c k.val y := fun k => by
    rw [termOf, dif_pos k.isLt]
  rw [Finset.sum_congr rfl fun k _ => hs k, Fin.sum_univ_eq_sum_range (fun k => termOf m c k y) cfg0.N,
    show cfg0.N = 16 from N_0]

/-- The result array after the run. -/
theorem final (c : Dev nD) : (dats m 0 c).arrAt 2 cfg0.N = fun _ => resultOf m c := by
  refine (dats m 0 c).arrAt_eq_of_covers 2 _ (by decide +kernel) fun t hf y => ?_
  have h1 : t.val % 16 = 15 := (flush0_2 t).mp hf
  have h0 : ¬ t.val % 16 = 0 := by omega
  simp only [cast_eq]
  refine (congrFun ((Value.flushed2 m c t).symm.trans (Value.flushed2_C m c t h0 h1)) y).trans ?_
  refine (out_C _ _ _ _ _ _ _ _ _ _ _ _ _ _ _ _).trans ?_
  exact congrArg₂ lossOf (word_total m c t h1 fst2) (word_total m c t h1 snd2)

/-- A plane of labels read at a place. -/
theorem labels_apply (c : Dev nD) (t : Fin cfg0.N) (ht : t.val < 16) (h w : Fin 512) :
    (iblk m c 0 t : FVec Ideal S1x512x512 .f32) (ix3 0 h w)
      = (m ((c : Thread nD τ).loc main_arg1) : FVec Ideal S16x1x512x512 .f32) (ix4 ⟨t.val, ht⟩ 0 h w) := by
  have idx : ∀ t, win0_0.index t = ![t.val, 0, 0] := by decide +kernel
  blk_point [iblk, V, idx t]

/-- A plane of the mask read at a place. -/
theorem mask_apply (c : Dev nD) (t : Fin cfg0.N) (ht : t.val < 16) (h w : Fin 512) :
    (iblk m c 1 t : IVec S1x512x512 32) (ix3 0 h w)
      = (m ((c : Thread nD τ).loc main_arg2) : IVec S16x512x512 32) (ix3 ⟨t.val, ht⟩ h w) := by
  have idx : ∀ t, win0_1.index t = ![t.val, 0, 0] := by decide +kernel
  blk_point [iblk, V, idx t]

end Cert.KernelIdeal.Loss

end
-- ==== Proof.Rising.lean ====
/- The two counts of a plane of labels: the pairs along a row whose label rises, and the masked labels of a column
   that are not its median. -/
module

public import proofs.«01_k».proof.Proof.Column
public import proofs.«01_k».proof.Proof.Words

@[expose] public section

set_option maxRecDepth 16384

noncomputable section

namespace Cert.KernelIdeal.Loss

open Idealize.ShloMosaic Cert.KernelIdeal.Gen

/-- A row `s` places ahead, zero past its end. -/
def past (x : Fin 512 → ℕ) (w : Fin 512) (s : ℕ) : ℕ := if h : w.val + s < 512 then x ⟨w.val + s, h⟩ else 0

theorem past_le (x : Fin 512 → ℕ) (b : ℕ) (hx : ∀ w, x w ≤ b) (w : Fin 512) (s : ℕ) : past x w s ≤ b := by
  unfold past
  split
  · exact hx _
  · exact Nat.zero_le _

theorem past_mul (x y : Fin 512 → ℕ) (w : Fin 512) (s : ℕ) :
    past (fun w => x w * y w) w s = past x w s * past y w s := by
  unfold past
  split <;> rfl

/-- The kernel's clipped difference tells whether the label ahead is the larger, both being masked in. -/
theorem clip_rise (a m b k : ℕ) (hb : b ≤ 26) (hm : m = 0 ∨ m = 1) (hk : k = 0 ∨ k = 1) :
    clip (nat (b * k) - (nat a + (((100 : ℝ) : EReal) - ((100 : ℝ) : EReal) * nat m)))
      = if a * m < b * (k * m) then 1 else 0 := by
  have e : (nat (b * k) - (nat a + (((100 : ℝ) : EReal) - ((100 : ℝ) : EReal) * nat m)) : EReal)
      = ((((b : ℤ) * k - (a + (100 - 100 * m)) : ℤ) : ℝ) : EReal) := by
    push_cast
    norm_cast
  rw [e, clip_int]
  refine if_congr ?_ rfl rfl
  rcases hm with rfl | rfl <;> rcases hk with rfl | rfl <;> simp <;> omega

/-- The labels that rise over the shifts from 1 to 29, in one plane. -/
def risesOf (a m : Fin 512 → Fin 512 → ℕ) : EReal :=
  ∑ w, ∑ h, ∑ s ∈ Finset.range 29,
    if a h w * m h w < past (a h) w (s + 1) * (past (m h) w (s + 1) * m h w) then (1 : EReal) else 0

/-- The masked labels that are not their column's median, in one plane; `s` gives each column's entries sorted. -/
def unequalOf (a m : Fin 512 → Fin 512 → ℕ) (s : Fin 512 → Fin 512 → EReal) : EReal :=
  ∑ w, ∑ h, if m h w = 1 ∧ nat (a h w * m h w) ≠ medianOf (s w) (num fun h => a h w * m h w) then (1 : EReal) else 0

variable (v0 : FVec Ideal S1x512x512 .f32) (v4 : IVec S1x512x512 32)

theorem hundred_bf16 : Ideal.ofBits .bf16 0x42C8#16 = ((100 : ℝ) : EReal) := by
  simp [Ideal.ofBits, Ideal.ieee, -EReal.coe_mul]
  norm_num

theorem pay4_apply (y : S1x512x512.Idx) : k0_pay4 (F := Ideal) v4 y = (((v4 y).toInt : ℝ) : EReal) := by
  pointwise [k0_pay4]
  rfl

theorem pay5_apply (y : S1x512x512.Idx) :
    k0_pay5 (F := Ideal) v0 v4 y = Ideal.liftRound Ideal.roundHalfEven (v0 y) * (((v4 y).toInt : ℝ) : EReal) := by
  rw [← pay4_apply]
  pointwise [k0_pay5, k0_pay3]

theorem pay6_apply (y : S1x512x512.Idx) :
    k0_pay6 (F := Ideal) v0 v4 y = Ideal.liftRound Ideal.roundHalfEven (v0 y)
      + (((100 : ℝ) : EReal) - ((100 : ℝ) : EReal) * (((v4 y).toInt : ℝ) : EReal)) := by
  rw [← hundred_bf16]
  rw [← pay4_apply]
  pointwise [k0_pay6, k0_pay3]

variable (a m : Fin 512 → Fin 512 → ℕ) (ha : ∀ h w, a h w ≤ 26) (hm : ∀ h w, m h w = 0 ∨ m h w = 1)
  (hv0 : ∀ h w, Ideal.liftRound Ideal.roundHalfEven (v0 (ix3 0 h w)) = nat (a h w))
  (hv4 : ∀ h w, (((v4 (ix3 0 h w)).toInt : ℝ) : EReal) = nat (m h w))

include hv0 hv4

theorem masked_nat (h w : Fin 512) : k0_pay5 (F := Ideal) v0 v4 (ix3 0 h w) = nat (a h w * m h w) := by
  rw [pay5_apply, hv0, hv4, nat, nat, ← EReal.coe_mul, ← Nat.cast_mul]

include ha hm

/-- One plane's rising pairs. -/
theorem desc_nat : descOf v0 v4 = risesOf a m := by
  rw [descOf_eq]
  refine Finset.sum_congr rfl fun w _ => Finset.sum_congr rfl fun h _ => Finset.sum_congr rfl fun s _ => ?_
  have e : ahead (k0_pay5 v0 v4) h w (s + 1) = nat (past (a h) w (s + 1) * past (m h) w (s + 1)) := by
    rw [← past_mul]
    unfold ahead past
    split
    · exact masked_nat v0 v4 a m hv0 hv4 _ _
    · exact nat_zero.symm
  rw [e, pay6_apply, hv0, hv4]
  refine clip_rise _ _ _ _ (past_le _ 26 (ha h) w _) (hm h w) ?_
  unfold past
  split
  · exact hm _ _
  · exact Or.inl rfl

/-- One plane's labels off their median. -/
theorem vert_nat (s : Fin 512 → Fin 512 → EReal) (hs : ∀ w, Sorted (fun h => a h w * m h w) (s w)) :
    vertOf v0 v4 = unequalOf a m s := by
  rw [vertOf_eq]
  refine Finset.sum_congr rfl fun w _ => ?_
  have e5 : col (k0_pay5 v0 v4) w = fun h => nat (a h w * m h w) := funext fun h => masked_nat v0 v4 a m hv0 hv4 h w
  have e4 : col (k0_pay4 v4) w = fun h => nat (m h w) := funext fun h => (pay4_apply v4 _).trans (hv4 h w)
  rw [e5, e4]
  refine column_nat (fun h => a h w * m h w) (fun h => m h w) (fun h => ?_) (fun h => hm h w) (fun h h0 => ?_) (s w) (hs w)
  · rcases hm h w with e | e <;> simp [e, ha h w]
  · simp [h0]

end Cert.KernelIdeal.Loss

end
-- ==== Proof.Refloop.lean ====
/- The reference's loop: over the shifts from 1 to 29 it counts the places whose label is smaller than the label so
   many places ahead, both masked. -/
module

public import proofs.«01_k».proof.Proof.Refmedian
public import proofs.«01_k».proof.Proof.Rising
public import Idealize.ShloMosaic.Lib.DynamicIndex

@[expose] public section

set_option maxRecDepth 16384

noncomputable section

namespace Cert.ReferenceIdeal.Loss

open Idealize.ShloMosaic Cert.ReferenceIdeal Cert.ReferenceIdeal.Gen Cert.ReferenceIdeal.Value
open Idealize.ShloMosaic.StableHlo Idealize.ShloMosaic.TcCoe Idealize.SL.Sem Cert.KernelIdeal.Loss

/-- A volume whose rows are zero for 29 places past their end. -/
abbrev Wide := FVec Ideal S16x512x541 .f32

/-- A volume with 29 zeros after every row. -/
def widened (x : Volume) : Wide :=
  pad S16x512x541 ![0, 0, 0] ![0, 0, 29] ![0, 0, 0] x (constant S_ .f32 0x00000000#32)
    pads_S16x512x512_S16x512x541_000_000_0290 h_S_

/-- A wide volume's places from a shift on. -/
def shifted (X : Wide) (S : IVec S_ 32) : Volume :=
  Host.dynamicSlice S16x512x512 X (fun k => (((![constantI S_ 32 0#32, constantI S_ 32 0#32, S] :
    Fin 3 → (⟨S_, .i32⟩ : BufTy).Contents (Elt Ideal))) k (Shape.Idx.first h_S_)).toInt) sliceFits_S16x512x541_S16x512x512

/-- What one trip adds: the number of places whose label is the smaller. -/
def rise (X Y : Wide) (M L : Volume) (S : IVec S_ 32) : FVec Ideal S_ .f32 :=
  Host.reduceAdd (uitofp .f32 (cmpf .olt (subf (mulf L M) (mulf (shifted X S) (mulf (shifted Y S) M))) zeros))
    (constant S_ .f32 0x00000000#32) reducesTo_S16x512x512_S_d0_1_2 h_S_

theorem step_count (V : Valuation τ sig (Elt Ideal)) :
    STEP V (Proc.devRef .tc main_v5_6) = addf (V (Proc.devRef .tc main_v5_6))
      (rise (V (Proc.devRef .tc main_v5_0)) (V (Proc.devRef .tc main_v5_1)) (V (Proc.devRef .tc main_v5_2))
        (V (Proc.devRef .tc main_v5_3)) (V (Proc.devRef .tc main_v5_5))) :=
  (STEP_main_v5_6 V).trans rfl

theorem step_shift (V : Valuation τ sig (Elt Ideal)) :
    STEP V (Proc.devRef .tc main_v5_5) = addi (V (Proc.devRef .tc main_v5_5)) (constantI S_ 32 1#32) :=
  (STEP_main_v5_5 V).trans rfl

/-- A widened volume shifted, read at a place. -/
theorem shifted_apply (x : Volume) (s : ℕ) (hs : s ≤ 29) (t : Fin 16) (h w : Fin 512) :
    shifted (widened x) (fun _ => BitVec.ofNat 32 s) (ix3 t h w)
      = if hw : w.val + s < 512 then x (ix3 t h ⟨w.val + s, hw⟩) else 0 := by
  have hsl : S16x512x541.Slices ![0, 0, s] S16x512x512 := ⟨rfl, fun a => by
    fin_cases a
    · show 0 + 16 ≤ 16
      omega
    · show 0 + 512 ≤ 512
      omega
    · show s + 512 ≤ 541
      omega⟩
  have e : shifted (widened x) (fun _ => BitVec.ofNat 32 s)
      = extractStridedSlice S16x512x512 ![0, 0, s] (widened x) hsl := by
    refine Host.dynamicSlice_eq_extractStridedSlice _ _ _ _ _ hsl fun a => ?_
    fin_cases a
    · rfl
    · rfl
    · exact toInt_ofNat_of_lt (by omega)
  rw [e]
  pointwise [widened]
  by_cases hw : w.val + s < 512
  · have hw' : s + w.val < 512 := by omega
    rw [dif_pos hw, dif_pos hw']
    exact congrArg (fun k => x (ix3 t h k)) (Fin.ext (Nat.add_comm _ _))
  · rw [dif_neg hw, dif_neg (by omega)]

theorem rise_apply (X Y : Wide) (M L : Volume) (S : IVec S_ 32) (y : S_.Idx) :
    rise X Y M L S y = ∑ t : Fin 16, ∑ h : Fin 512, ∑ w : Fin 512,
      if L (ix3 t h w) * M (ix3 t h w) - shifted X S (ix3 t h w) * (shifted Y S (ix3 t h w) * M (ix3 t h w)) < 0
      then (1 : EReal) else 0 := by
  have e : rise X Y M L S y = ∑ t : Fin 16, ∑ h : Fin 512, ∑ w : Fin 512,
      (uitofp .f32 (cmpf .olt (subf (mulf L M) (mulf (shifted X S) (mulf (shifted Y S) M))) zeros) : Volume) (ix3 t h w) := by
    obtain rfl : y = ix0 := funext fun k => k.elim0
    unfold rise
    generalize (uitofp .f32 (cmpf .olt (subf (mulf L M) (mulf (shifted X S) (mulf (shifted Y S) M))) zeros) : Volume) = Z
    pointwise []
  rw [e]
  refine Finset.sum_congr rfl fun t _ => Finset.sum_congr rfl fun h _ => Finset.sum_congr rfl fun w _ => ?_
  rw [← bit_nat, ← zeros_apply (ix3 t h w)]
  rfl

variable (m : (ℓ : Loc nD τ sig) → Buf (Elt Ideal) ℓ) (c : Dev nD)

/-- The predictions and the mask as launched. -/
abbrev preds : FVec Ideal S16x1x512x512 .f32 := m ((c.tc : Thread nD τ).loc main_arg1)

abbrev masks : IVec S16x512x512 32 := m ((c.tc : Thread nD τ).loc main_arg2)

theorem entry_0 : entryContents preI m c (Proc.devRef .tc main_v5_0) = widened (labels (preds m c)) := by
  simp only [entryContents, afterL_cons, afterL_nil]
  after_reads_simp
  rfl

theorem entry_1 : entryContents preI m c (Proc.devRef .tc main_v5_1) = widened (maskf (masks m c)) := by
  simp only [entryContents, afterL_cons, afterL_nil]
  after_reads_simp
  rfl

theorem entry_2 : entryContents preI m c (Proc.devRef .tc main_v5_2) = maskf (masks m c) := by
  simp only [entryContents, afterL_cons, afterL_nil]
  after_reads_simp
  rfl

theorem entry_3 : entryContents preI m c (Proc.devRef .tc main_v5_3) = labels (preds m c) := by
  simp only [entryContents, afterL_cons, afterL_nil]
  after_reads_simp
  rfl

theorem entry_5 : entryContents preI m c (Proc.devRef .tc main_v5_5) = fun _ => (1#32 : BitVec 32) := by
  simp only [entryContents, afterL_cons, afterL_nil]
  after_reads_simp
  rfl

theorem entry_6 : entryContents preI m c (Proc.devRef .tc main_v5_6) = constant (F := Ideal) S_ .f32 0x00000000#32 := by
  simp only [entryContents, afterL_cons, afterL_nil]
  after_reads_simp
  rfl

/-- The contents after `k` trips. -/
abbrev afterTrips (k : ℕ) : Valuation τ sig (Elt Ideal) := STEP^[k] (entryContents preI m c)

/-- What a trip does not write stays, and the shift grows by one. -/
theorem trips_keep (k : ℕ) :
    afterTrips m c k (Proc.devRef .tc main_v5_0) = widened (labels (preds m c))
      ∧ afterTrips m c k (Proc.devRef .tc main_v5_1) = widened (maskf (masks m c))
      ∧ afterTrips m c k (Proc.devRef .tc main_v5_2) = maskf (masks m c)
      ∧ afterTrips m c k (Proc.devRef .tc main_v5_3) = labels (preds m c)
      ∧ afterTrips m c k (Proc.devRef .tc main_v5_5) = fun _ => BitVec.ofNat 32 (k + 1) := by
  induction k with
  | zero => exact ⟨entry_0 m c, entry_1 m c, entry_2 m c, entry_3 m c, entry_5 m c⟩
  | succ k ih =>
    obtain ⟨h0, h1, h2, h3, h5⟩ := ih
    unfold afterTrips at h0 h1 h2 h3 h5 ⊢
    rw [Function.iterate_succ_apply']
    refine ⟨(STEP_main_v5_0 _).trans h0, (STEP_main_v5_1 _).trans h1, (STEP_main_v5_2 _).trans h2,
      (STEP_main_v5_3 _).trans h3, (step_shift _).trans ?_⟩
    rw [h5]
    funext y
    show BitVec.ofNat 32 (k + 1) + 1#32 = _
    rw [BitVec.ofNat_add]
    rw [BitVec.ofNat_add, BitVec.ofNat_add]

/-- The count after `k` trips. -/
theorem trips_count (k : ℕ) (y : S_.Idx) :
    (afterTrips m c k (Proc.devRef .tc main_v5_6) : FVec Ideal S_ .f32) y = ∑ s ∈ Finset.range k,
      rise (widened (labels (preds m c))) (widened (maskf (masks m c))) (maskf (masks m c)) (labels (preds m c))
        (fun _ => BitVec.ofNat 32 (s + 1)) y := by
  induction k with
  | zero =>
    rw [Finset.range_zero, Finset.sum_empty]
    refine (congrFun (entry_6 m c) y).trans ?_
    exact zero_f32
  | succ k ih =>
    rw [Finset.sum_range_succ, ← ih]
    obtain ⟨h0, h1, h2, h3, h5⟩ := trips_keep m c k
    unfold afterTrips at h0 h1 h2 h3 h5 ⊢
    rw [Function.iterate_succ_apply']
    refine (congrFun (step_count _) y).trans ?_
    rw [h0, h1, h2, h3, h5]
    rfl

/-- What one trip adds, at labels and masks that are natural numbers. -/
theorem rise_nat (P M : Volume) (a b : Fin 16 → Fin 512 → Fin 512 → ℕ)
    (hP : ∀ t h w, P (ix3 t h w) = nat (a t h w)) (hM : ∀ t h w, M (ix3 t h w) = nat (b t h w))
    (s : ℕ) (hs : s ≤ 29) (y : S_.Idx) :
    rise (widened P) (widened M) M P (fun _ => BitVec.ofNat 32 s) y
      = ∑ t : Fin 16, ∑ h : Fin 512, ∑ w : Fin 512,
        if a t h w * b t h w < past (a t h) w s * (past (b t h) w s * b t h w) then (1 : EReal) else 0 := by
  have hpast : ∀ (X : Volume) (x : Fin 16 → Fin 512 → Fin 512 → ℕ) (_ : ∀ t h w, X (ix3 t h w) = nat (x t h w))
      (t : Fin 16) (h w : Fin 512),
      shifted (widened X) (fun _ => BitVec.ofNat 32 s) (ix3 t h w) = nat (past (x t h) w s) := by
    intro X x hx t h w
    rw [shifted_apply X s hs, past]
    by_cases hw : w.val + s < 512
    · rw [dif_pos hw, dif_pos hw, hx]
    · rw [dif_neg hw, dif_neg hw, nat_zero]
  rw [rise_apply]
  refine Finset.sum_congr rfl fun t _ => Finset.sum_congr rfl fun h _ => Finset.sum_congr rfl fun w _ => ?_
  rw [hpast P a hP, hpast M b hM, hP, hM]
  refine if_congr ?_ rfl rfl
  show ((a t h w : ℝ) : EReal) * ((b t h w : ℝ) : EReal) - ((past (a t h) w s : ℝ) : EReal)
    * (((past (b t h) w s : ℝ) : EReal) * ((b t h w : ℝ) : EReal)) < ((0 : ℝ) : EReal) ↔ _
  rw [← EReal.coe_mul, ← EReal.coe_mul, ← EReal.coe_mul, ← EReal.coe_sub, EReal.coe_lt_coe_iff, sub_neg]
  exact_mod_cast Iff.rfl

end Cert.ReferenceIdeal.Loss

end
-- ==== Proof.Equation.lean ====
/- The two results, each as the same loss of the same two sums over the planes. -/
module

public import proofs.«01_k».proof.Proof.Refloop

@[expose] public section

set_option maxRecDepth 16384

noncomputable section

namespace Cert.KernelIdeal.Loss

open Idealize.ShloMosaic Cert.KernelIdeal Cert.KernelIdeal.Gen Cert.KernelIdeal.Value
open Idealize.ShloMosaic.TcCoe Idealize.SL.Sem

theorem nat_of_sum {ι : Type} (s : Finset ι) (f : ι → EReal) (h : ∀ i, ∃ n : ℕ, f i = nat n) :
    ∃ n : ℕ, ∑ i ∈ s, f i = nat n := by
  choose g hg using h
  exact ⟨∑ i ∈ s, g i, by rw [← sum_nat]; exact Finset.sum_congr rfl fun i _ => hg i⟩

theorem nat_of_ind (q : Prop) [Decidable q] : ∃ n : ℕ, (if q then (1 : EReal) else 0) = nat n :=
  ⟨if q then 1 else 0, ind_nat q⟩

theorem rises_nat (a b : Fin 512 → Fin 512 → ℕ) : ∃ n : ℕ, risesOf a b = nat n :=
  nat_of_sum _ _ fun _ => nat_of_sum _ _ fun _ => nat_of_sum _ _ fun _ => nat_of_ind _

theorem unequal_nat (a b : Fin 512 → Fin 512 → ℕ) (s : Fin 512 → Fin 512 → EReal) : ∃ n : ℕ, unequalOf a b s = nat n :=
  nat_of_sum _ _ fun _ => nat_of_sum _ _ fun _ => nat_of_ind _

theorem twenty_f32 : Ideal.ofBits .f32 0x41A00000#32 = ((20 : ℝ) : EReal) := by
  simp [Ideal.ofBits, Ideal.ieee, -EReal.coe_mul]
  norm_num

theorem places_f32 : Ideal.ofBits .f32 0x4A800000#32 = ((4194304 : ℝ) : EReal) := by
  simp [Ideal.ofBits, Ideal.ieee, -EReal.coe_mul]
  norm_num

theorem div_places (x : ℝ) :
    Ideal.div (x : EReal) (Ideal.ofBits .f32 0x4A800000#32) = ((x * (4194304 : ℝ)⁻¹ : ℝ) : EReal) := by
  rw [places_f32, Ideal.div, if_neg, ← EReal.coe_inv, ← EReal.coe_mul]
  rw [← EReal.coe_zero, EReal.coe_eq_coe_iff]
  norm_num

/-- Dividing the weighted sum of two counts is weighting and adding the two quotients. -/
theorem loss_split (A B : EReal) (hA : ∃ n : ℕ, A = nat n) (hB : ∃ n : ℕ, B = nat n) :
    lossOf A B = Ideal.div A (Ideal.ofBits .f32 0x4A800000#32) * Ideal.ofBits .f32 0x41A00000#32
      + Ideal.div B (Ideal.ofBits .f32 0x4A800000#32) := by
  obtain ⟨n, rfl⟩ := hA
  obtain ⟨k, rfl⟩ := hB
  rw [lossOf, div_places, div_places, twenty_f32, nat, nat, ← EReal.coe_mul, ← EReal.coe_add, div_places,
    ← EReal.coe_mul, ← EReal.coe_add, EReal.coe_eq_coe_iff]
  ring

/-- The kernel's result, at labels and masks that are natural numbers. -/
theorem result_nat (m : (ℓ : Loc nD τ sig) → Buf (Elt Ideal) ℓ) (c : Dev nD) (a b : Fin 16 → Fin 512 → Fin 512 → ℕ)
    (ha : ∀ t h w, a t h w ≤ 26) (hb : ∀ t h w, b t h w = 0 ∨ b t h w = 1)
    (hA : ∀ t h w, Ideal.liftRound Ideal.roundHalfEven
      ((m ((c : Thread nD τ).loc main_arg1) : FVec Ideal S16x1x512x512 .f32) (ix4 t 0 h w)) = nat (a t h w))
    (hB : ∀ t h w, ((((m ((c : Thread nD τ).loc main_arg2) : IVec S16x512x512 32) (ix3 t h w)).toInt : ℝ) : EReal)
      = nat (b t h w))
    (s : Fin 16 → Fin 512 → Fin 512 → EReal) (hs : ∀ t w, Sorted (fun h => a t h w * b t h w) (s t w)) :
    resultOf m c = lossOf (∑ t, risesOf (a t) (b t)) (∑ t, unequalOf (a t) (b t) (s t)) := by
  have hN : cfg0.N = 16 := N_0
  have h0 : ∀ (t : Fin cfg0.N) (h w : Fin 512), Ideal.liftRound Ideal.roundHalfEven
      ((iblk m c 0 t : FVec Ideal S1x512x512 .f32) (ix3 0 h w)) = nat (a (finCongr hN t) h w) := fun t h w => by
    rw [labels_apply m c t (lt_of_lt_of_eq t.isLt hN) h w]
    exact hA _ h w
  have h4 : ∀ (t : Fin cfg0.N) (h w : Fin 512), ((((iblk m c 1 t : IVec S1x512x512 32) (ix3 0 h w)).toInt : ℝ) : EReal)
      = nat (b (finCongr hN t) h w) := fun t h w => by
    rw [mask_apply m c t (lt_of_lt_of_eq t.isLt hN) h w]
    exact hB _ h w
  refine congrArg₂ lossOf ?_ ?_
  · exact Fintype.sum_equiv (finCongr hN) _ _ fun t => desc_nat _ _ (a (finCongr hN t)) (b (finCongr hN t))
      (ha _) (hb _) (h0 t) (h4 t)
  · exact Fintype.sum_equiv (finCongr hN) _ _ fun t => vert_nat _ _ (a (finCongr hN t)) (b (finCongr hN t))
      (ha _) (hb _) (h0 t) (h4 t) (s _) (hs _)

end Cert.KernelIdeal.Loss

namespace Cert.ReferenceIdeal.Loss

open Idealize.ShloMosaic Cert.ReferenceIdeal Cert.ReferenceIdeal.Gen Cert.ReferenceIdeal.Value
open Idealize.ShloMosaic.TcCoe Idealize.SL.Sem Cert.KernelIdeal.Loss

theorem sums_swap (f : Fin 16 → Fin 512 → Fin 512 → ℕ → EReal) (s : Finset ℕ) :
    ∑ k ∈ s, ∑ t, ∑ h, ∑ w, f t h w k = ∑ t, ∑ w, ∑ h, ∑ k ∈ s, f t h w k := by
  rw [Finset.sum_comm]
  refine Finset.sum_congr rfl fun t _ => ?_
  rw [Finset.sum_comm]
  have e : ∀ h, ∑ k ∈ s, ∑ w, f t h w k = ∑ w, ∑ k ∈ s, f t h w k := fun h => Finset.sum_comm
  simp only [e]
  exact Finset.sum_comm

/-- A label's difference from the median, masked, is not zero where the masked label is not the median. -/
theorem differs (a b : ℕ) (hb : b = 0 ∨ b = 1) (v : EReal) :
    (nat a - v) * nat b ≠ 0 ↔ b = 1 ∧ nat (a * b) ≠ v := by
  rcases hb with rfl | rfl
  · simp [nat_zero]
  · rw [nat_one, mul_one, mul_one]
    simp only [true_and, ne_eq]
    refine not_congr ?_
    induction v using EReal.rec with
    | bot =>
      rw [nat, EReal.coe_sub_bot]
      exact iff_of_false EReal.top_ne_zero (EReal.coe_ne_bot _)
    | top =>
      rw [nat, sub_eq_add_neg, EReal.neg_top, EReal.add_bot]
      exact iff_of_false EReal.bot_ne_zero (EReal.coe_ne_top _)
    | coe r =>
      rw [nat, ← EReal.coe_sub, ← EReal.coe_zero, EReal.coe_eq_coe_iff, EReal.coe_eq_coe_iff, sub_eq_zero]

variable (m : (ℓ : Loc nD τ sig) → Buf (Elt Ideal) ℓ) (c : Dev nD)

/-- The masked labels. -/
abbrev maskedOf : Volume := mulf (labels (preds m c)) (maskf (masks m c))

/-- The columns of the masked labels sorted. -/
abbrev sortedOf (t : Fin 16) (w r : Fin 512) : EReal := sorted (maskedOf m c) (ix3 t r w)

variable (a b : Fin 16 → Fin 512 → Fin 512 → ℕ) (hb : ∀ t h w, b t h w = 0 ∨ b t h w = 1)
  (hA : ∀ t h w, Ideal.liftRound Ideal.roundHalfEven (preds m c (ix4 t 0 h w)) = nat (a t h w))
  (hB : ∀ t h w, (((masks m c (ix3 t h w)).toInt : ℝ) : EReal) = nat (b t h w))

include hA hB

theorem masked_apply (t : Fin 16) (h w : Fin 512) : maskedOf m c (ix3 t h w) = nat (a t h w * b t h w) := by
  show labels (preds m c) (ix3 t h w) * maskf (masks m c) (ix3 t h w) = _
  rw [labels_apply, hA, maskf_apply, hB, nat, nat, nat, ← EReal.coe_mul, Nat.cast_mul]

theorem sorts (t : Fin 16) (w : Fin 512) : Sorted (fun h => a t h w * b t h w) (sortedOf m c t w) :=
  sorted_sorted _ t w _ fun h => masked_apply m c a b hA hB t h w

theorem count_nat (y : S_.Idx) : Eq (α := EReal) ((afterTrips m c 29 (Proc.devRef .tc main_v5_6) : FVec Ideal S_ .f32) y)
    (∑ t, risesOf (a t) (b t)) := by
  have e : ∀ s ∈ Finset.range 29, Eq (α := EReal) (rise (widened (labels (preds m c))) (widened (maskf (masks m c)))
      (maskf (masks m c)) (labels (preds m c)) (fun _ => BitVec.ofNat 32 (s + 1)) y) (∑ t, ∑ h, ∑ w,
        if a t h w * b t h w < past (a t h) w (s + 1) * (past (b t h) w (s + 1) * b t h w) then (1 : EReal) else 0) :=
    fun s hs => rise_nat _ _ a b (fun t h w => (labels_apply _ t h w).trans (hA t h w))
      (fun t h w => (maskf_apply _ _).trans (hB t h w)) (s + 1) (Nat.succ_le_of_lt (Finset.mem_range.mp hs)) y
  exact (trips_count m c 29 y).trans ((Finset.sum_congr (M := EReal) rfl e).trans (sums_swap (fun t h w s =>
    if a t h w * b t h w < past (a t h) w (s + 1) * (past (b t h) w (s + 1) * b t h w) then (1 : EReal) else 0) _))

include hb in
theorem unequal_eq (y : S_.Idx) : unequal (labels (preds m c)) (maskf (masks m c)) y
    = ∑ t, unequalOf (a t) (b t) (sortedOf m c t) := by
  rw [unequal_apply]
  refine Finset.sum_congr rfl fun t _ => ?_
  rw [Finset.sum_comm]
  refine Finset.sum_congr rfl fun w _ => Finset.sum_congr rfl fun h _ => ?_
  rw [medians_apply _ t w _ fun h => masked_apply m c a b hA hB t h w, labels_apply, hA, maskf_apply, hB]
  exact if_congr (differs _ _ (hb t h w) _) rfl rfl

include hb in
/-- The reference's result, at labels and masks that are natural numbers. -/
theorem out_nat : Value.out_main_v50 (afterTrips m c 29) = fun _ =>
    lossOf (∑ t, risesOf (a t) (b t)) (∑ t, unequalOf (a t) (b t) (sortedOf m c t)) := by
  have h1 : afterTrips m c 29 (Proc.devRef .tc main_arg1) = preds m c := iter_main_arg1 m c 29
  have h2 : afterTrips m c 29 (Proc.devRef .tc main_arg2) = masks m c := iter_main_arg2 m c 29
  rw [out_eq, h1, h2, loss_split _ _ (nat_of_sum _ _ fun t => rises_nat _ _) (nat_of_sum _ _ fun t => unequal_nat _ _ _)]
  funext y
  have e : ∀ y : S_.Idx, (addf (mulf (Host.divf (afterTrips m c 29 (Proc.devRef .tc main_v5_6))
      (constant (F := Ideal) S_ .f32 0x4A800000#32)) (constant S_ .f32 0x41A00000#32))
      (Host.divf (unequal (labels (preds m c)) (maskf (masks m c))) (constant S_ .f32 0x4A800000#32)) : FVec Ideal S_ .f32) y
      = Ideal.div (∑ t, risesOf (a t) (b t)) (Ideal.ofBits .f32 0x4A800000#32) * Ideal.ofBits .f32 0x41A00000#32
        + Ideal.div (∑ t, unequalOf (a t) (b t) (sortedOf m c t)) (Ideal.ofBits .f32 0x4A800000#32) := fun y => by
    rw [← count_nat m c a b hA hB y, ← unequal_eq m c a b hb hA hB y]
    rfl
  exact e _

end Cert.ReferenceIdeal.Loss

end
-- ==== Proof.lean ====
/- The proof of the claims: the three frames are the generated ones (the reference's follows from its run, since it has no
   counter at all), nothing was rewritten between the kernel and its idealization, and the two results are one and the
   same loss of the same two counts. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Labels
public import proofs.«01_k».proof.Proof.Equation
public import Idealize.ShloMosaic.Lib.Quiescent
public import Idealize.ShloMosaic.Adequacy
public import Idealize.ShloMosaic.Init

@[expose] public section

noncomputable section

namespace Cert.ReferenceIdeal.Loss

open Idealize.ShloMosaic Idealize.SL.Sem Cert.ReferenceIdeal Cert.ReferenceIdeal.Gen

/-- The reference terminates, its arguments unchanged; it declares no semaphore, so every counter is zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run m ρ)

end Cert.ReferenceIdeal.Loss

namespace Cert.Proof

open Idealize.ShloMosaic Idealize.SL.Sem Cert.KernelIdeal.Loss

/-- Both programs run, and end with the same loss. -/
theorem same_loss :
    algebraic_KernelIdeal_ReferenceIdeal_pre_labels_and_masks (hKernelIdeal := Cert.KernelIdeal.Gen.facts)
      (hReferenceIdeal := Cert.ReferenceIdeal.Gen.facts) (hPre_labels_and_masks := Cert.Pre_labels_and_masks.facts) := by
  intro m g m' g' hpre hm
  haveI := Cert.Pre_labels_and_masks.facts
  refine ⟨fun c _ => resultOf m c,
    (θ_run _ _ _).mono (fun r h c => ⟨(h c).1.trans (final m c), (h c).2⟩) (Cert.KernelIdeal.Value.run_blocks m g),
    (θ_run _ _ _).mono (fun r h c => ⟨(h c).1.trans ?_, (h c).2⟩) (Cert.ReferenceIdeal.Value.run m' g')⟩
  obtain ⟨hA, hB⟩ := of_pre _ _ _ _ (hpre c)
  obtain ⟨-, e1, e2, -⟩ := hm c
  choose a ha hA using hA
  choose b hb hB using hB
  have hA' : ∀ t h w, Ideal.liftRound Ideal.roundHalfEven (Cert.ReferenceIdeal.Loss.preds m' c (ix4 t 0 h w))
      = nat (a (ix4 t 0 h w)) := fun t h w => by
    unfold Cert.ReferenceIdeal.Loss.preds
    rw [e1]
    exact hA _
  have hB' : ∀ t h w, (((Cert.ReferenceIdeal.Loss.masks m' c (ix3 t h w)).toInt : ℝ) : EReal)
      = nat (b (ix3 t h w)) := fun t h w => by
    unfold Cert.ReferenceIdeal.Loss.masks
    rw [e2]
    exact hB _
  refine (Cert.ReferenceIdeal.Loss.out_nat m' c (fun t h w => a (ix4 t 0 h w)) (fun t h w => b (ix3 t h w))
    (fun t h w => hb _) hA' hB').trans (funext fun _ => ?_)
  exact (result_nat m c (fun t h w => a (ix4 t 0 h w)) (fun t h w => b (ix3 t h w)) (fun t h w => ha _)
    (fun t h w => hb _) (fun t h w => hA _) (fun t h w => hB _) (Cert.ReferenceIdeal.Loss.sortedOf m' c)
    (fun t w => Cert.ReferenceIdeal.Loss.sorts m' c _ _ hA' hB' t w)).symm

theorem claim : Cert.Claim := ⟨Cert.Kernel.Gen.facts, Cert.KernelIdeal.Gen.facts, Cert.ReferenceIdeal.Gen.facts,
  Cert.Pre_labels_and_masks.facts,
  fun m g _ => Cert.Kernel.Gen.frame m g,
  fun m g _ => Cert.KernelIdeal.Gen.frame m g,
  fun m g _ => Cert.KernelIdeal.Gen.frame m g,
  fun m g _ => Cert.ReferenceIdeal.Loss.frame m g,
  fun m g _ => Cert.ReferenceIdeal.Loss.frame m g,
  trivial,
  same_loss⟩

end Cert.Proof

end
